-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite2 [hPre_finite2 : Cert.Pre_finite2.Facts] (m : (ℓ : Loc Cert.GateIdeal.nD Cert.GateIdeal.τ Cert.GateIdeal.sig) → Buf (Elt Ideal) ℓ) : Prop :=
  ∀ c : Dev Cert.GateIdeal.nD,
    (Cert.Pre_finite2.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite2 [hPre_finite2 : Cert.Pre_finite2.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite2.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_WeightGate (m : (ℓ : Loc Cert.WeightGate.nD Cert.WeightGate.τ Cert.WeightGate.sig) → Buf (Elt Bits) ℓ) : Prop :=
  True

def Pre_WeightGateIdeal (m : (ℓ : Loc Cert.WeightGateIdeal.nD Cert.WeightGateIdeal.τ Cert.WeightGateIdeal.sig) → Buf (Elt Ideal) ℓ) : Prop :=
  True

def Pre_WeightGateRefIdeal (m : (ℓ : Loc Cert.WeightGateRefIdeal.nD Cert.WeightGateRefIdeal.τ Cert.WeightGateRefIdeal.sig) → Buf (Elt Ideal) ℓ) : Prop :=
  True

def Pre_WeightUp (m : (ℓ : Loc Cert.WeightUp.nD Cert.WeightUp.τ Cert.WeightUp.sig) → Buf (Elt Bits) ℓ) : Prop :=
  True

def Pre_WeightUpIdeal (m : (ℓ : Loc Cert.WeightUpIdeal.nD Cert.WeightUpIdeal.τ Cert.WeightUpIdeal.sig) → Buf (Elt Ideal) ℓ) : Prop :=
  True

def Pre_WeightUpRefIdeal (m : (ℓ : Loc Cert.WeightUpRefIdeal.nD Cert.WeightUpRefIdeal.τ Cert.WeightUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite8 [hPre_finite8 : Cert.Pre_finite8.Facts] (m : (ℓ : Loc Cert.UpIdeal.nD Cert.UpIdeal.τ Cert.UpIdeal.sig) → Buf (Elt Ideal) ℓ) : Prop :=
  ∀ c : Dev Cert.UpIdeal.nD,
    (Cert.Pre_finite8.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite8 [hPre_finite8 : Cert.Pre_finite8.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite8.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite2 [hGateIdeal : Cert.GateIdeal.Facts] [hPre_finite2 : Cert.Pre_finite2.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite2 m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite2 [hGateRefIdeal : Cert.GateRefIdeal.Facts] [hPre_finite2 : Cert.Pre_finite2.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite2 m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8))
      ∧ r.2.sem = fun _ => 0)

def quiescent_WeightGate [hWeightGate : Cert.WeightGate.Facts] : Prop :=
  ∀ (m : (ℓ : Loc Cert.WeightGate.nD Cert.WeightGate.τ Cert.WeightGate.sig) → Buf (Elt Bits) ℓ) (g : Dev Cert.WeightGate.nD → PrngReg), Pre_WeightGate m →
    θ_run (Cert.WeightGate.defs (F := Bits)) (onTc (τ := Cert.WeightGate.τ) (Cert.WeightGate.main (F := Bits))) ⟨m, fun _ => 0, g⟩ (fun r => (∀ c : Dev Cert.WeightGate.nD,
      r.2.mem ((c.tc : Thread Cert.WeightGate.nD Cert.WeightGate.τ).loc Cert.WeightGate.main_arg0) = m ((c.tc : Thread Cert.WeightGate.nD Cert.WeightGate.τ).loc Cert.WeightGate.main_arg0)
      ∧ r.2.mem ((c.tc : Thread Cert.WeightGate.nD Cert.WeightGate.τ).loc Cert.WeightGate.main_arg1) = m ((c.tc : Thread Cert.WeightGate.nD Cert.WeightGate.τ).loc Cert.WeightGate.main_arg1))
      ∧ r.2.sem = fun _ => 0)

def quiescent_WeightGateIdeal [hWeightGateIdeal : Cert.WeightGateIdeal.Facts] : Prop :=
  ∀ (m : (ℓ : Loc Cert.WeightGateIdeal.nD Cert.WeightGateIdeal.τ Cert.WeightGateIdeal.sig) → Buf (Elt Ideal) ℓ) (g : Dev Cert.WeightGateIdeal.nD → PrngReg), Pre_WeightGateIdeal m →
    θ_run (Cert.WeightGateIdeal.defs (F := Ideal)) (onTc (τ := Cert.WeightGateIdeal.τ) (Cert.WeightGateIdeal.main (F := Ideal))) ⟨m, fun _ => 0, g⟩ (fun r => (∀ c : Dev Cert.WeightGateIdeal.nD,
      r.2.mem ((c.tc : Thread Cert.WeightGateIdeal.nD Cert.WeightGateIdeal.τ).loc Cert.WeightGateIdeal.main_arg0) = m ((c.tc : Thread Cert.WeightGateIdeal.nD Cert.WeightGateIdeal.τ).loc Cert.WeightGateIdeal.main_arg0)
      ∧ r.2.mem ((c.tc : Thread Cert.WeightGateIdeal.nD Cert.WeightGateIdeal.τ).loc Cert.WeightGateIdeal.main_arg1) = m ((c.tc : Thread Cert.WeightGateIdeal.nD Cert.WeightGateIdeal.τ).loc Cert.WeightGateIdeal.main_arg1))
      ∧ r.2.sem = fun _ => 0)

def quiescent_WeightGateRefIdeal [hWeightGateRefIdeal : Cert.WeightGateRefIdeal.Facts] : Prop :=
  ∀ (m : (ℓ : Loc Cert.WeightGateRefIdeal.nD Cert.WeightGateRefIdeal.τ Cert.WeightGateRefIdeal.sig) → Buf (Elt Ideal) ℓ) (g : Dev Cert.WeightGateRefIdeal.nD → PrngReg), Pre_WeightGateRefIdeal m →
    θ_run (Cert.WeightGateRefIdeal.defs (F := Ideal)) (onTc (τ := Cert.WeightGateRefIdeal.τ) (Cert.WeightGateRefIdeal.main (F := Ideal))) ⟨m, fun _ => 0, g⟩ (fun r => (∀ c : Dev Cert.WeightGateRefIdeal.nD,
      r.2.mem ((c.tc : Thread Cert.WeightGateRefIdeal.nD Cert.WeightGateRefIdeal.τ).loc Cert.WeightGateRefIdeal.main_arg0) = m ((c.tc : Thread Cert.WeightGateRefIdeal.nD Cert.WeightGateRefIdeal.τ).loc Cert.WeightGateRefIdeal.main_arg0)
      ∧ r.2.mem ((c.tc : Thread Cert.WeightGateRefIdeal.nD Cert.WeightGateRefIdeal.τ).loc Cert.WeightGateRefIdeal.main_arg1) = m ((c.tc : Thread Cert.WeightGateRefIdeal.nD Cert.WeightGateRefIdeal.τ).loc Cert.WeightGateRefIdeal.main_arg1))
      ∧ r.2.sem = fun _ => 0)

def quiescent_WeightUp [hWeightUp : Cert.WeightUp.Facts] : Prop :=
  ∀ (m : (ℓ : Loc Cert.WeightUp.nD Cert.WeightUp.τ Cert.WeightUp.sig) → Buf (Elt Bits) ℓ) (g : Dev Cert.WeightUp.nD → PrngReg), Pre_WeightUp m →
    θ_run (Cert.WeightUp.defs (F := Bits)) (onTc (τ := Cert.WeightUp.τ) (Cert.WeightUp.main (F := Bits))) ⟨m, fun _ => 0, g⟩ (fun r => (∀ c : Dev Cert.WeightUp.nD,
      r.2.mem ((c.tc : Thread Cert.WeightUp.nD Cert.WeightUp.τ).loc Cert.WeightUp.main_arg0) = m ((c.tc : Thread Cert.WeightUp.nD Cert.WeightUp.τ).loc Cert.WeightUp.main_arg0)
      ∧ r.2.mem ((c.tc : Thread Cert.WeightUp.nD Cert.WeightUp.τ).loc Cert.WeightUp.main_arg1) = m ((c.tc : Thread Cert.WeightUp.nD Cert.WeightUp.τ).loc Cert.WeightUp.main_arg1))
      ∧ r.2.sem = fun _ => 0)

def quiescent_WeightUpIdeal [hWeightUpIdeal : Cert.WeightUpIdeal.Facts] : Prop :=
  ∀ (m : (ℓ : Loc Cert.WeightUpIdeal.nD Cert.WeightUpIdeal.τ Cert.WeightUpIdeal.sig) → Buf (Elt Ideal) ℓ) (g : Dev Cert.WeightUpIdeal.nD → PrngReg), Pre_WeightUpIdeal m →
    θ_run (Cert.WeightUpIdeal.defs (F := Ideal)) (onTc (τ := Cert.WeightUpIdeal.τ) (Cert.WeightUpIdeal.main (F := Ideal))) ⟨m, fun _ => 0, g⟩ (fun r => (∀ c : Dev Cert.WeightUpIdeal.nD,
      r.2.mem ((c.tc : Thread Cert.WeightUpIdeal.nD Cert.WeightUpIdeal.τ).loc Cert.WeightUpIdeal.main_arg0) = m ((c.tc : Thread Cert.WeightUpIdeal.nD Cert.WeightUpIdeal.τ).loc Cert.WeightUpIdeal.main_arg0)
      ∧ r.2.mem ((c.tc : Thread Cert.WeightUpIdeal.nD Cert.WeightUpIdeal.τ).loc Cert.WeightUpIdeal.main_arg1) = m ((c.tc : Thread Cert.WeightUpIdeal.nD Cert.WeightUpIdeal.τ).loc Cert.WeightUpIdeal.main_arg1))
      ∧ r.2.sem = fun _ => 0)

def quiescent_WeightUpRefIdeal [hWeightUpRefIdeal : Cert.WeightUpRefIdeal.Facts] : Prop :=
  ∀ (m : (ℓ : Loc Cert.WeightUpRefIdeal.nD Cert.WeightUpRefIdeal.τ Cert.WeightUpRefIdeal.sig) → Buf (Elt Ideal) ℓ) (g : Dev Cert.WeightUpRefIdeal.nD → PrngReg), Pre_WeightUpRefIdeal m →
    θ_run (Cert.WeightUpRefIdeal.defs (F := Ideal)) (onTc (τ := Cert.WeightUpRefIdeal.τ) (Cert.WeightUpRefIdeal.main (F := Ideal))) ⟨m, fun _ => 0, g⟩ (fun r => (∀ c : Dev Cert.WeightUpRefIdeal.nD,
      r.2.mem ((c.tc : Thread Cert.WeightUpRefIdeal.nD Cert.WeightUpRefIdeal.τ).loc Cert.WeightUpRefIdeal.main_arg0) = m ((c.tc : Thread Cert.WeightUpRefIdeal.nD Cert.WeightUpRefIdeal.τ).loc Cert.WeightUpRefIdeal.main_arg0)
      ∧ r.2.mem ((c.tc : Thread Cert.WeightUpRefIdeal.nD Cert.WeightUpRefIdeal.τ).loc Cert.WeightUpRefIdeal.main_arg1) = m ((c.tc : Thread Cert.WeightUpRefIdeal.nD Cert.WeightUpRefIdeal.τ).loc Cert.WeightUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpIdeal_pre_finite8 [hUpIdeal : Cert.UpIdeal.Facts] [hPre_finite8 : Cert.Pre_finite8.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite8 m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpRefIdeal_pre_finite8 [hUpRefIdeal : Cert.UpRefIdeal.Facts] [hPre_finite8 : Cert.Pre_finite8.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite8 m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E16C740#32 (((Real.sqrt 96)⁻¹ * (Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateRefIdeal_pre_finite2 [hGateIdeal : Cert.GateIdeal.Facts] [hGateRefIdeal : Cert.GateRefIdeal.Facts] [hPre_finite2 : Cert.Pre_finite2.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite2 m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v19_0)) (v1 : (c : Dev Cert.GateIdeal.nD) → Buf (Elt Ideal) ((c.tc : Thread Cert.GateIdeal.nD Cert.GateIdeal.τ).loc Cert.GateIdeal.main_v19_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v19_0) = v0 c
          ∧ r.2.mem ((c.tc : Thread Cert.GateIdeal.nD Cert.GateIdeal.τ).loc Cert.GateIdeal.main_v19_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_v8) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v2)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v2) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v4) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)) →
    ∃ (v0 : (c : Dev Cert.NormIdeal.nD) → Buf (Elt Ideal) ((c.tc : Thread Cert.NormIdeal.nD Cert.NormIdeal.τ).loc Cert.NormIdeal.main_v24_0)) (v1 : (c : Dev Cert.NormIdeal.nD) → Buf (Elt Ideal) ((c.tc : Thread Cert.NormIdeal.nD Cert.NormIdeal.τ).loc Cert.NormIdeal.main_v24_1)) (v2 : (c : Dev Cert.NormIdeal.nD) → Buf (Elt Ideal) ((c.tc : Thread Cert.NormIdeal.nD Cert.NormIdeal.τ).loc Cert.NormIdeal.main_v24_2)) (v3 : (c : Dev Cert.NormIdeal.nD) → Buf (Elt Ideal) ((c.tc : Thread Cert.NormIdeal.nD Cert.NormIdeal.τ).loc Cert.NormIdeal.main_v24_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v24_0) = v0 c
          ∧ r.2.mem ((c.tc : Thread Cert.NormIdeal.nD Cert.NormIdeal.τ).loc Cert.NormIdeal.main_v24_1) = v1 c
          ∧ r.2.mem ((c.tc : Thread Cert.NormIdeal.nD Cert.NormIdeal.τ).loc Cert.NormIdeal.main_v24_2) = v2 c
          ∧ r.2.mem ((c.tc : Thread Cert.NormIdeal.nD Cert.NormIdeal.τ).loc Cert.NormIdeal.main_v24_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v58) = v0 c
          ∧ r.2.mem ((c.tc : Thread Cert.NormRefIdeal.nD Cert.NormRefIdeal.τ).loc Cert.NormRefIdeal.main_v80) = v1 c
          ∧ r.2.mem ((c.tc : Thread Cert.NormRefIdeal.nD Cert.NormRefIdeal.τ).loc Cert.NormRefIdeal.main_v81) = v2 c
          ∧ r.2.mem ((c.tc : Thread Cert.NormRefIdeal.nD Cert.NormRefIdeal.τ).loc Cert.NormRefIdeal.main_v82) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8))

def preserves_WeightGate_WeightGateIdeal : Prop :=
  True

def algebraic_WeightGateIdeal_WeightGateRefIdeal [hWeightGateIdeal : Cert.WeightGateIdeal.Facts] [hWeightGateRefIdeal : Cert.WeightGateRefIdeal.Facts] : Prop :=
  ∀ (m : (ℓ : Loc Cert.WeightGateIdeal.nD Cert.WeightGateIdeal.τ Cert.WeightGateIdeal.sig) → Buf (Elt Ideal) ℓ) (g : Dev Cert.WeightGateIdeal.nD → PrngReg)
    (m' : (ℓ : Loc Cert.WeightGateRefIdeal.nD Cert.WeightGateRefIdeal.τ Cert.WeightGateRefIdeal.sig) → Buf (Elt Ideal) ℓ) (g' : Dev Cert.WeightGateRefIdeal.nD → PrngReg), Pre_WeightGateIdeal m →
    (∀ c : Dev Cert.WeightGateIdeal.nD,
      m' ((c.tc : Thread Cert.WeightGateRefIdeal.nD Cert.WeightGateRefIdeal.τ).loc Cert.WeightGateRefIdeal.main_arg0) = m ((c.tc : Thread Cert.WeightGateIdeal.nD Cert.WeightGateIdeal.τ).loc Cert.WeightGateIdeal.main_arg0)
      ∧ m' ((c.tc : Thread Cert.WeightGateRefIdeal.nD Cert.WeightGateRefIdeal.τ).loc Cert.WeightGateRefIdeal.main_arg1) = m ((c.tc : Thread Cert.WeightGateIdeal.nD Cert.WeightGateIdeal.τ).loc Cert.WeightGateIdeal.main_arg1)) →
    ∃ (v0 : (c : Dev Cert.WeightGateIdeal.nD) → Buf (Elt Ideal) ((c.tc : Thread Cert.WeightGateIdeal.nD Cert.WeightGateIdeal.τ).loc Cert.WeightGateIdeal.main_v2)),
      θ_run (Cert.WeightGateIdeal.defs (F := Ideal)) (onTc (τ := Cert.WeightGateIdeal.τ) (Cert.WeightGateIdeal.main (F := Ideal))) ⟨m, fun _ => 0, g⟩ (fun r => ∀ c : Dev Cert.WeightGateIdeal.nD,
          r.2.mem ((c.tc : Thread Cert.WeightGateIdeal.nD Cert.WeightGateIdeal.τ).loc Cert.WeightGateIdeal.main_v2) = v0 c
          ∧ r.2.mem ((c.tc : Thread Cert.WeightGateIdeal.nD Cert.WeightGateIdeal.τ).loc Cert.WeightGateIdeal.main_arg0) = m ((c.tc : Thread Cert.WeightGateIdeal.nD Cert.WeightGateIdeal.τ).loc Cert.WeightGateIdeal.main_arg0)
          ∧ r.2.mem ((c.tc : Thread Cert.WeightGateIdeal.nD Cert.WeightGateIdeal.τ).loc Cert.WeightGateIdeal.main_arg1) = m ((c.tc : Thread Cert.WeightGateIdeal.nD Cert.WeightGateIdeal.τ).loc Cert.WeightGateIdeal.main_arg1))
      ∧ θ_run (Cert.WeightGateRefIdeal.defs (F := Ideal)) (onTc (τ := Cert.WeightGateRefIdeal.τ) (Cert.WeightGateRefIdeal.main (F := Ideal))) ⟨m', fun _ => 0, g'⟩ (fun r => ∀ c : Dev Cert.WeightGateRefIdeal.nD,
          r.2.mem ((c.tc : Thread Cert.WeightGateRefIdeal.nD Cert.WeightGateRefIdeal.τ).loc Cert.WeightGateRefIdeal.main_v5) = v0 c
          ∧ r.2.mem ((c.tc : Thread Cert.WeightGateRefIdeal.nD Cert.WeightGateRefIdeal.τ).loc Cert.WeightGateRefIdeal.main_arg0) = m' ((c.tc : Thread Cert.WeightGateRefIdeal.nD Cert.WeightGateRefIdeal.τ).loc Cert.WeightGateRefIdeal.main_arg0)
          ∧ r.2.mem ((c.tc : Thread Cert.WeightGateRefIdeal.nD Cert.WeightGateRefIdeal.τ).loc Cert.WeightGateRefIdeal.main_arg1) = m' ((c.tc : Thread Cert.WeightGateRefIdeal.nD Cert.WeightGateRefIdeal.τ).loc Cert.WeightGateRefIdeal.main_arg1))

def preserves_WeightUp_WeightUpIdeal : Prop :=
  True

def algebraic_WeightUpIdeal_WeightUpRefIdeal [hWeightUpIdeal : Cert.WeightUpIdeal.Facts] [hWeightUpRefIdeal : Cert.WeightUpRefIdeal.Facts] : Prop :=
  ∀ (m : (ℓ : Loc Cert.WeightUpIdeal.nD Cert.WeightUpIdeal.τ Cert.WeightUpIdeal.sig) → Buf (Elt Ideal) ℓ) (g : Dev Cert.WeightUpIdeal.nD → PrngReg)
    (m' : (ℓ : Loc Cert.WeightUpRefIdeal.nD Cert.WeightUpRefIdeal.τ Cert.WeightUpRefIdeal.sig) → Buf (Elt Ideal) ℓ) (g' : Dev Cert.WeightUpRefIdeal.nD → PrngReg), Pre_WeightUpIdeal m →
    (∀ c : Dev Cert.WeightUpIdeal.nD,
      m' ((c.tc : Thread Cert.WeightUpRefIdeal.nD Cert.WeightUpRefIdeal.τ).loc Cert.WeightUpRefIdeal.main_arg0) = m ((c.tc : Thread Cert.WeightUpIdeal.nD Cert.WeightUpIdeal.τ).loc Cert.WeightUpIdeal.main_arg0)
      ∧ m' ((c.tc : Thread Cert.WeightUpRefIdeal.nD Cert.WeightUpRefIdeal.τ).loc Cert.WeightUpRefIdeal.main_arg1) = m ((c.tc : Thread Cert.WeightUpIdeal.nD Cert.WeightUpIdeal.τ).loc Cert.WeightUpIdeal.main_arg1)) →
    ∃ (v0 : (c : Dev Cert.WeightUpIdeal.nD) → Buf (Elt Ideal) ((c.tc : Thread Cert.WeightUpIdeal.nD Cert.WeightUpIdeal.τ).loc Cert.WeightUpIdeal.main_v2)),
      θ_run (Cert.WeightUpIdeal.defs (F := Ideal)) (onTc (τ := Cert.WeightUpIdeal.τ) (Cert.WeightUpIdeal.main (F := Ideal))) ⟨m, fun _ => 0, g⟩ (fun r => ∀ c : Dev Cert.WeightUpIdeal.nD,
          r.2.mem ((c.tc : Thread Cert.WeightUpIdeal.nD Cert.WeightUpIdeal.τ).loc Cert.WeightUpIdeal.main_v2) = v0 c
          ∧ r.2.mem ((c.tc : Thread Cert.WeightUpIdeal.nD Cert.WeightUpIdeal.τ).loc Cert.WeightUpIdeal.main_arg0) = m ((c.tc : Thread Cert.WeightUpIdeal.nD Cert.WeightUpIdeal.τ).loc Cert.WeightUpIdeal.main_arg0)
          ∧ r.2.mem ((c.tc : Thread Cert.WeightUpIdeal.nD Cert.WeightUpIdeal.τ).loc Cert.WeightUpIdeal.main_arg1) = m ((c.tc : Thread Cert.WeightUpIdeal.nD Cert.WeightUpIdeal.τ).loc Cert.WeightUpIdeal.main_arg1))
      ∧ θ_run (Cert.WeightUpRefIdeal.defs (F := Ideal)) (onTc (τ := Cert.WeightUpRefIdeal.τ) (Cert.WeightUpRefIdeal.main (F := Ideal))) ⟨m', fun _ => 0, g'⟩ (fun r => ∀ c : Dev Cert.WeightUpRefIdeal.nD,
          r.2.mem ((c.tc : Thread Cert.WeightUpRefIdeal.nD Cert.WeightUpRefIdeal.τ).loc Cert.WeightUpRefIdeal.main_v5) = v0 c
          ∧ r.2.mem ((c.tc : Thread Cert.WeightUpRefIdeal.nD Cert.WeightUpRefIdeal.τ).loc Cert.WeightUpRefIdeal.main_arg0) = m' ((c.tc : Thread Cert.WeightUpRefIdeal.nD Cert.WeightUpRefIdeal.τ).loc Cert.WeightUpRefIdeal.main_arg0)
          ∧ r.2.mem ((c.tc : Thread Cert.WeightUpRefIdeal.nD Cert.WeightUpRefIdeal.τ).loc Cert.WeightUpRefIdeal.main_arg1) = m' ((c.tc : Thread Cert.WeightUpRefIdeal.nD Cert.WeightUpRefIdeal.τ).loc Cert.WeightUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_v14) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal_pre_finite8 [hUpIdeal : Cert.UpIdeal.Facts] [hUpRefIdeal : Cert.UpRefIdeal.Facts] [hPre_finite8 : Cert.Pre_finite8.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite8 m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)) (v2 : (c : Dev Cert.UpIdeal.nD) → Buf (Elt Ideal) ((c.tc : Thread Cert.UpIdeal.nD Cert.UpIdeal.τ).loc Cert.UpIdeal.main_v7_2)) (v3 : (c : Dev Cert.UpIdeal.nD) → Buf (Elt Ideal) ((c.tc : Thread Cert.UpIdeal.nD Cert.UpIdeal.τ).loc Cert.UpIdeal.main_v7_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_v7_2) = v2 c
          ∧ r.2.mem ((c.tc : Thread Cert.UpIdeal.nD Cert.UpIdeal.τ).loc Cert.UpIdeal.main_v7_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v21) = v0 c
          ∧ r.2.mem ((c.tc : Thread Cert.UpRefIdeal.nD Cert.UpRefIdeal.τ).loc Cert.UpRefIdeal.main_v22) = v1 c
          ∧ r.2.mem ((c.tc : Thread Cert.UpRefIdeal.nD Cert.UpRefIdeal.τ).loc Cert.UpRefIdeal.main_v23) = v2 c
          ∧ r.2.mem ((c.tc : Thread Cert.UpRefIdeal.nD Cert.UpRefIdeal.τ).loc Cert.UpRefIdeal.main_v24) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hWeight : Cert.Weight.Facts) (hWeightIdeal : Cert.WeightIdeal.Facts) (hWeightRefIdeal : Cert.WeightRefIdeal.Facts) (hNorm : Cert.Norm.Facts) (hNormIdeal : Cert.NormIdeal.Facts) (hNormRefIdeal : Cert.NormRefIdeal.Facts) (hWeightGate : Cert.WeightGate.Facts) (hWeightGateIdeal : Cert.WeightGateIdeal.Facts) (hWeightGateRefIdeal : Cert.WeightGateRefIdeal.Facts) (hWeightUp : Cert.WeightUp.Facts) (hWeightUpIdeal : Cert.WeightUpIdeal.Facts) (hWeightUpRefIdeal : Cert.WeightUpRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hPre_finite : Cert.Pre_finite.Facts) (hPre_finite2 : Cert.Pre_finite2.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite2 (hGateIdeal := hGateIdeal) (hPre_finite2 := hPre_finite2)
    ∧ quiescent_GateRefIdeal (hGateRefIdeal := hGateRefIdeal)
    ∧ quiescent_GateRefIdeal_pre_finite2 (hGateRefIdeal := hGateRefIdeal) (hPre_finite2 := hPre_finite2)
    ∧ quiescent_Weight (hWeight := hWeight)
    ∧ quiescent_WeightIdeal (hWeightIdeal := hWeightIdeal)
    ∧ quiescent_WeightRefIdeal (hWeightRefIdeal := hWeightRefIdeal)
    ∧ quiescent_Norm (hNorm := hNorm)
    ∧ quiescent_NormIdeal (hNormIdeal := hNormIdeal)
    ∧ quiescent_NormRefIdeal (hNormRefIdeal := hNormRefIdeal)
    ∧ quiescent_WeightGate (hWeightGate := hWeightGate)
    ∧ quiescent_WeightGateIdeal (hWeightGateIdeal := hWeightGateIdeal)
    ∧ quiescent_WeightGateRefIdeal (hWeightGateRefIdeal := hWeightGateRefIdeal)
    ∧ quiescent_WeightUp (hWeightUp := hWeightUp)
    ∧ quiescent_WeightUpIdeal (hWeightUpIdeal := hWeightUpIdeal)
    ∧ quiescent_WeightUpRefIdeal (hWeightUpRefIdeal := hWeightUpRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpIdeal_pre_finite8 (hUpIdeal := hUpIdeal) (hPre_finite8 := hPre_finite8)
    ∧ quiescent_UpRefIdeal (hUpRefIdeal := hUpRefIdeal)
    ∧ quiescent_UpRefIdeal_pre_finite8 (hUpRefIdeal := hUpRefIdeal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite2 (hGateIdeal := hGateIdeal) (hGateRefIdeal := hGateRefIdeal) (hPre_finite2 := hPre_finite2)
    ∧ preserves_Weight_WeightIdeal
    ∧ algebraic_WeightIdeal_WeightRefIdeal (hWeightIdeal := hWeightIdeal) (hWeightRefIdeal := hWeightRefIdeal)
    ∧ preserves_Norm_NormIdeal
    ∧ algebraic_NormIdeal_NormRefIdeal (hNormIdeal := hNormIdeal) (hNormRefIdeal := hNormRefIdeal)
    ∧ preserves_WeightGate_WeightGateIdeal
    ∧ algebraic_WeightGateIdeal_WeightGateRefIdeal (hWeightGateIdeal := hWeightGateIdeal) (hWeightGateRefIdeal := hWeightGateRefIdeal)
    ∧ preserves_WeightUp_WeightUpIdeal
    ∧ algebraic_WeightUpIdeal_WeightUpRefIdeal (hWeightUpIdeal := hWeightUpIdeal) (hWeightUpRefIdeal := hWeightUpRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal_pre_finite8 (hUpIdeal := hUpIdeal) (hUpRefIdeal := hUpRefIdeal) (hPre_finite8 := hPre_finite8)
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Pre_finite2.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S_ 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite8.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S8192x1024 .f32) (main_arg1 : FVec F S1024 .f32) (main_arg2 : FVec F S1024x2816 .f32) (main_arg3 : FVec F S1024x2816 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  main_v8
-- ==== Kernel.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x32 : Shape := ⟨3, ![8192, 8, 32]⟩
abbrev S8192x8x128 : Shape := ⟨3, ![8192, 8, 128]⟩
abbrev S8192x1024 : Shape := ⟨2, ![8192, 1024]⟩
abbrev S8x1x8192 : Shape := ⟨3, ![8, 1, 8192]⟩
abbrev S8x8x8192 : Shape := ⟨3, ![8, 8, 8192]⟩
abbrev S4x16x8192 : Shape := ⟨3, ![4, 16, 8192]⟩
abbrev S8192x256 : Shape := ⟨2, ![8192, 256]⟩
abbrev S512x256 : Shape := ⟨2, ![512, 256]⟩
abbrev S1x16x8192 : Shape := ⟨3, ![1, 16, 8192]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 74
  | .vmem => 22
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x64x8192, .f32⟩
  | .hbm, ⟨33, _⟩ => ⟨S8192x8x64, .f32⟩
  | .hbm, ⟨34, _⟩ => ⟨S8x8192x1, .f32⟩
  | .hbm, ⟨35, _⟩ => ⟨S8x8192x1, .f32⟩
  | .hbm, ⟨36, _⟩ => ⟨S_, .f32⟩
  | .hbm, ⟨37, _⟩ => ⟨S_, .f32⟩
  | .hbm, ⟨38, _⟩ => ⟨S8x8192x1, .f32⟩
  | .hbm, ⟨39, _⟩ => ⟨S8x8192x1, .f32⟩
  | .hbm, ⟨40, _⟩ => ⟨S8x8192, .f32⟩
  | .hbm, ⟨41, _⟩ => ⟨S8192x8x64, .f32⟩
  | .hbm, ⟨42, _⟩ => ⟨S_, .f32⟩
  | .hbm, ⟨43, _⟩ => ⟨S8192x8, .f32⟩
  | .hbm, ⟨44, _⟩ => ⟨S8x8192, .f32⟩
  | .hbm, ⟨45, _⟩ => ⟨S_, .f32⟩
  | .hbm, ⟨46, _⟩ => ⟨S8192x8x32, .f32⟩
  | .hbm, ⟨47, _⟩ => ⟨S8192x8x128, .f32⟩
  | .hbm, ⟨48, _⟩ => ⟨S8192x1024, .f32⟩
  | .hbm, ⟨49, _⟩ => ⟨S8192x1024, .bf16⟩
  | .hbm, ⟨50, _⟩ => ⟨S_, .f32⟩
  | .hbm, ⟨51, _⟩ => ⟨S8192x8x32, .f32⟩
  | .hbm, ⟨52, _⟩ => ⟨S8192x8x128, .f32⟩
  | .hbm, ⟨53, _⟩ => ⟨S8192x1024, .f32⟩
  | .hbm, ⟨54, _⟩ => ⟨S8192x1024, .bf16⟩
  | .hbm, ⟨55, _⟩ => ⟨S_, .f32⟩
  | .hbm, ⟨56, _⟩ => ⟨S8192x8x64, .f32⟩
  | .hbm, ⟨57, _⟩ => ⟨S8192x8x128, .f32⟩
  | .hbm, ⟨58, _⟩ => ⟨S8192x1024, .f32⟩
  | .hbm, ⟨59, _⟩ => ⟨S8192x1024, .bf16⟩
  | .hbm, ⟨60, _⟩ => ⟨S_, .f32⟩
  | .hbm, ⟨61, _⟩ => ⟨S8192x8x64, .f32⟩
  | .hbm, ⟨62, _⟩ => ⟨S8192x8x128, .f32⟩
  | .hbm, ⟨63, _⟩ => ⟨S8192x1024, .f32⟩
  | .hbm, ⟨64, _⟩ => ⟨S8192x1024, .bf16⟩
  | .hbm, ⟨65, _⟩ => ⟨S8x1x8192, .f32⟩
  | .hbm, ⟨66, _⟩ => ⟨S8x8x8192, .f32⟩
  | .hbm, ⟨67, _⟩ => ⟨S4x16x8192, .f32⟩
  | .hbm, ⟨68, _⟩ => ⟨S8x1x8192, .f32⟩
  | .hbm, ⟨69, _⟩ => ⟨S8x8x8192, .f32⟩
  | .hbm, ⟨70, _⟩ => ⟨S4x16x8192, .f32⟩
  | .hbm, ⟨71, _⟩ => ⟨S8192x1024, .f32⟩
  | .hbm, ⟨72, _⟩ => ⟨S8192x1024, .f32⟩
  | .hbm, ⟨73, _⟩ => ⟨S8192x1024, .f32⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S8192x256, .bf16⟩
  | .local _ .vmem, ⟨7, _⟩ => ⟨S8192x256, .bf16⟩
  | .local _ .vmem, ⟨8, _⟩ => ⟨S1x16x8192, .f32⟩
  | .local _ .vmem, ⟨9, _⟩ => ⟨S1x16x8192, .f32⟩
  | .local _ .vmem, ⟨10, _⟩ => ⟨S1x16x8192, .f32⟩
  | .local _ .vmem, ⟨11, _⟩ => ⟨S1x16x8192, .f32⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54_0 : Ref sig .tc := ⟨.hbm, 71, rfl⟩
abbrev main_v54_1 : Ref sig .tc := ⟨.hbm, 72, rfl⟩
abbrev main_v54_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v21 : BitVec 32 := Scalar.muli arg1 c512_i32
  v21
def k0_off1 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v23 : Index := Scalar.indexCast v22
  let c0_11 : Index := 0#32
  ![v23.toNat, 0]
def k0_off2 (i : grid0.Coords) : Fin 3 → Nat :=
  let c0_17 : Index := 0#32
  let c0_18 : Index := 0#32
  let arg1 : BitVec 32 := BitVec.ofNat 32 (i 1).val
  let c512_i32 : BitVec 32 := 512#32
  let v21 : BitVec 32 := Scalar.muli arg1 c512_i32
  let v22 : BitVec 32 := v21
  let v35 : Index := Scalar.indexCast v22
  ![0, 0, v35.toNat]
def k0_off3 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v73 : Index := Scalar.indexCast v22
  let c128 : Index := 128#32
  ![v73.toNat, 128]
def k0_off4 (i : grid0.Coords) : Fin 3 → Nat :=
  let c0_43 : Index := 0#32
  let c8 : Index := 8#32
  let arg1 : BitVec 32 := BitVec.ofNat 32 (i 1).val
  let c512_i32 : BitVec 32 := 512#32
  let v21 : BitVec 32 := Scalar.muli arg1 c512_i32
  let v22 : BitVec 32 := v21
  let v85 : Index := Scalar.indexCast v22
  ![0, 8, v85.toNat]
@[reducible] def k0_t1_loop (i : grid0.Coords) : Scf.Loop 32 :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_65 : BitVec 32 := 1#32
  ⟨v123, v128, c1_i32_65⟩
def k0_mult2 (i : grid0.Coords) (k0_t1 : Fin (k0_t1_loop i).trips) : BitVec 32 :=
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  v144
def k0_off5 (i : grid0.Coords) (k0_t1 : Fin (k0_t1_loop i).trips) : Fin 2 → Nat :=
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v146 : Index := Scalar.indexCast v145
  let c0_87 : Index := 0#32
  ![v146.toNat, 0]
def k0_off6 (i : grid0.Coords) (k0_t1 : Fin (k0_t1_loop i).trips) : Fin 3 → Nat :=
  let c0_92 : Index := 0#32
  let c0_93 : Index := 0#32
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v155 : Index := Scalar.indexCast v145
  ![0, 0, v155.toNat]
def k0_off7 (i : grid0.Coords) (k0_t1 : Fin (k0_t1_loop i).trips) : Fin 2 → Nat :=
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v193 : Index := Scalar.indexCast v145
  let c128_113 : Index := 128#32
  ![v193.toNat, 128]
def k0_off8 (i : grid0.Coords) (k0_t1 : Fin (k0_t1_loop i).trips) : Fin 3 → Nat :=
  let c0_118 : Index := 0#32
  let c8_119 : Index := 8#32
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v202 : Index := Scalar.indexCast v145
  ![0, 8, v202.toNat]
@[reducible] def k0_t2_loop (i : grid0.Coords) : Scf.Loop 32 :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let v125 : BitVec 32 := Scalar.addi v123 v124
  let c1_i32_66 : BitVec 32 := 1#32
  ⟨v128, v125, c1_i32_66⟩
def k0_mult3 (i : grid0.Coords) (k0_t2 : Fin (k0_t2_loop i).trips) : BitVec 32 :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  v144
def k0_off9 (i : grid0.Coords) (k0_t2 : Fin (k0_t2_loop i).trips) : Fin 2 → Nat :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v146 : Index := Scalar.indexCast v145
  let c0_87 : Index := 0#32
  ![v146.toNat, 0]
def k0_off10 (i : grid0.Coords) (k0_t2 : Fin (k0_t2_loop i).trips) : Fin 3 → Nat :=
  let c0_92 : Index := 0#32
  let c0_93 : Index := 0#32
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v155 : Index := Scalar.indexCast v145
  ![0, 0, v155.toNat]
def k0_off11 (i : grid0.Coords) (k0_t2 : Fin (k0_t2_loop i).trips) : Fin 2 → Nat :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v193 : Index := Scalar.indexCast v145
  let c128_113 : Index := 128#32
  ![v193.toNat, 128]
def k0_off12 (i : grid0.Coords) (k0_t2 : Fin (k0_t2_loop i).trips) : Fin 3 → Nat :=
  let c0_118 : Index := 0#32
  let c8_119 : Index := 8#32
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v202 : Index := Scalar.indexCast v145
  ![0, 8, v202.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | "scale" => some (((Real.sqrt 96)⁻¹ : ℝ) : EReal)
  | "scale2" => some (((Real.sqrt 96)⁻¹ * (Real.log 2)⁻¹ : ℝ) : EReal)
  | _ => none
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x64x8192, .f32⟩
  | .hbm, ⟨62, _⟩ => ⟨S8192x8x64, .f32⟩
  | .hbm, ⟨63, _⟩ => ⟨S8x64x8192, .f32⟩
  | .hbm, ⟨64, _⟩ => ⟨S8x8192x8192, .f32⟩
  | .hbm, ⟨65, _⟩ => ⟨S8x64x8192, .f32⟩
  | .hbm, ⟨66, _⟩ => ⟨S8192x8x64, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S8x8192x96, .f32⟩
  | .hbm, ⟨87, _⟩ => ⟨S8192x8x96, .f32⟩
  | .hbm, ⟨88, _⟩ => ⟨S8x8192x96, .f32⟩
  | .hbm, ⟨89, _⟩ => ⟨S8192x8x96, .f32⟩
  | .hbm, ⟨90, _⟩ => ⟨S_, .i32⟩
  | .hbm, ⟨91, _⟩ => ⟨S_, .f32⟩
  | .hbm, ⟨92, _⟩ => ⟨S8192x8x128, .f32⟩
  | .hbm, ⟨93, _⟩ => ⟨S8192x1024, .f32⟩
  | .hbm, ⟨94, _⟩ => ⟨S_, .i32⟩
  | .hbm, ⟨95, _⟩ => ⟨S_, .f32⟩
  | .hbm, ⟨96, _⟩ => ⟨S8192x8x128, .f32⟩
  | .hbm, ⟨97, _⟩ => ⟨S8192x1024, .f32⟩
  | .hbm, ⟨98, _⟩ => ⟨S_, .i32⟩
  | .hbm, ⟨99, _⟩ => ⟨S_, .f32⟩
  | .hbm, ⟨100, _⟩ => ⟨S8192x8x128, .f32⟩
  | .hbm, ⟨101, _⟩ => ⟨S8192x1024, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c : Ref sig .tc := ⟨.hbm, 90, rfl⟩
abbrev main_call2_v0 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_call3_v0 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_call4_v0 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Gate.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8x352x1024 : Shape := ⟨3, ![8, 352, 1024]⟩
abbrev S256x1024 : Shape := ⟨2, ![256, 1024]⟩
abbrev S256x2816 : Shape := ⟨2, ![256, 2816]⟩

abbrev nBuf : Space → Nat
  | .hbm => 29
  | .vmem => 11
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | .hbm, ⟨22, _⟩ => ⟨S8192x2816, .f32⟩
  | .hbm, ⟨23, _⟩ => ⟨S8192x2816, .bf16⟩
  | .hbm, ⟨24, _⟩ => ⟨S8192x1024, .bf16⟩
  | .hbm, ⟨25, _⟩ => ⟨S2816x1024, .bf16⟩
  | .hbm, ⟨26, _⟩ => ⟨S8x352x1024, .bf16⟩
  | .hbm, ⟨27, _⟩ => ⟨S8192x2816, .bf16⟩
  | .hbm, ⟨28, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S8x352x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Weight.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S8x352x1024 : Shape := ⟨3, ![8, 352, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 40
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S8192x1024, .f32⟩
  | .hbm, ⟨7, _⟩ => ⟨S8192x2816, .f32⟩
  | .hbm, ⟨8, _⟩ => ⟨S8192x2816, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1x1024, .f32⟩
  | .hbm, ⟨28, _⟩ => ⟨S2816x1024, .f32⟩
  | .hbm, ⟨29, _⟩ => ⟨S2816x1024, .bf16⟩
  | .hbm, ⟨30, _⟩ => ⟨S8x352x1024, .bf16⟩
  | .hbm, ⟨31, _⟩ => ⟨S2816x1024, .f32⟩
  | .hbm, ⟨32, _⟩ => ⟨S2816x1024, .bf16⟩
  | .hbm, ⟨33, _⟩ => ⟨S8x352x1024, .bf16⟩
  | .hbm, ⟨34, _⟩ => ⟨S8192x2816, .bf16⟩
  | .hbm, ⟨35, _⟩ => ⟨S8192x2816, .bf16⟩
  | .hbm, ⟨36, _⟩ => ⟨S8192x1024, .f32⟩
  | .hbm, ⟨37, _⟩ => ⟨S8192x1024, .bf16⟩
  | .hbm, ⟨38, _⟩ => ⟨S1x1024, .f32⟩
  | .hbm, ⟨39, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S8x352x1024, .bf16⟩
  | .local _ .vmem, ⟨13, _⟩ => ⟨S8x352x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x352x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== NormRefIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S8192x1024, .f32⟩
  | .hbm, ⟨7, _⟩ => ⟨S8192x2816, .f32⟩
  | .hbm, ⟨8, _⟩ => ⟨S8192x2816, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x2816, .f32⟩
  | .hbm, ⟨51, _⟩ => ⟨S8192x2816, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .bf16⟩
  | .hbm, ⟨108, _⟩ => ⟨S1x1024, .f32⟩
  | .hbm, ⟨109, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== WeightGate.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGateRefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WeightUp.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightUpRefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S1024 : Shape := ⟨1, ![1024]⟩
abbrev S2816x1024 : Shape := ⟨2, ![2816, 1024]⟩
abbrev S8x352x1024 : Shape := ⟨3, ![8, 352, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024, .f32⟩
  | .hbm, ⟨3, _⟩ => ⟨S2816x1024, .f32⟩
  | .hbm, ⟨4, _⟩ => ⟨S2816x1024, .bf16⟩
  | .hbm, ⟨5, _⟩ => ⟨S8x352x1024, .bf16⟩
  | .hbm, ⟨6, _⟩ => ⟨S8192x2816, .bf16⟩
  | .hbm, ⟨7, _⟩ => ⟨S1x1024, .f32⟩
  | .hbm, ⟨8, _⟩ => ⟨S8192x1024, .f32⟩
  | .hbm, ⟨9, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S8192x2816 : Shape := ⟨2, ![8192, 2816]⟩
abbrev S8192x1024 : Shape := ⟨2, ![8192, 1024]⟩
abbrev S1024 : Shape := ⟨1, ![1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S8x352x1024, .bf16⟩
  | .hbm, ⟨7, _⟩ => ⟨S2816x1024, .f32⟩
  | .hbm, ⟨8, _⟩ => ⟨S2816x1024, .bf16⟩
  | .hbm, ⟨9, _⟩ => ⟨S8x352x1024, .bf16⟩
  | .hbm, ⟨10, _⟩ => ⟨S1x1024, .f32⟩
  | .hbm, ⟨11, _⟩ => ⟨S8192x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .bf16⟩
  | .hbm, ⟨45, _⟩ => ⟨S8192x2816, .bf16⟩
  | .hbm, ⟨46, _⟩ => ⟨S8192x2816, .bf16⟩
  | .hbm, ⟨47, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== Proof.Bits.Runs.lean ====
/- What the three cases of the kernel body share: the arrays before the launch, the branch conditions, the buffers. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

abbrev cond0_1 (i : grid0.Coords) : Prop := (Scalar.cmpi .ne (Scalar.extui (Scalar.cmpi .eq (BitVec.ofNat 32 (i 1).val) 15#32)) 0#32) = 1#1
theorem hcond0_1 : ∀ t : Fin cfg0.N, cond0_1 (grid0.coords t) ↔ t.val % 16 = 15 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 15)

abbrev ms0_0 (t : Fin cfg0.N) : Memref sig .tc .vmem S8192x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .f32 := win0_8.stage (cfg0.slots t 8)
abbrev hs0_8 (t : Fin cfg0.N) : (ms0_8 t).IsWhole := hstage0_8 ((cfg0.slots t 8).cast nbuf0_8)
abbrev scM0_0 : Memref sig .tc .vmem S512x128 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Whole

end
-- ==== Proof.Bits.RunA.lean ====
/- The body at a pair's first key block. -/
module

public import proofs.«01_k».proof.Proof.Bits.Runs

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
theorem kernelRun0_A (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : ¬cond0_1 i)
    (x0 : Vec F S8192x256 .bf16) (x1 : Vec F S512x256 .bf16) (x2 : Vec F S512x256 .bf16) (x3 : Vec F S8192x256 .bf16) (x4 : Vec F S1x16x8192 .f32) (x5 : Vec F S1x16x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_bwd_eq_skeleton]; unfold cc0_attn_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Whole

end
-- ==== Proof.Bits.RunB.lean ====
/- The body at a key block that is neither the first nor the last. -/
module

public import proofs.«01_k».proof.Proof.Bits.RunA

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
theorem kernelRun0_B (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc1 : ¬cond0_1 i)
    (x0 : Vec F S8192x256 .bf16) (x1 : Vec F S512x256 .bf16) (x2 : Vec F S512x256 .bf16) (x3 : Vec F S8192x256 .bf16) (x4 : Vec F S1x16x8192 .f32) (x5 : Vec F S1x16x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_bwd_eq_skeleton]; unfold cc0_attn_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Whole

end
-- ==== Proof.Bits.RunC.lean ====
/- The body at a pair's last key block. -/
module

public import proofs.«01_k».proof.Proof.Bits.RunB

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
theorem kernelRun0_C (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc1 : cond0_1 i)
    (x0 : Vec F S8192x256 .bf16) (x1 : Vec F S512x256 .bf16) (x2 : Vec F S512x256 .bf16) (x3 : Vec F S8192x256 .bf16) (x4 : Vec F S1x16x8192 .f32) (x5 : Vec F S1x16x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_bwd_eq_skeleton]; unfold cc0_attn_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Whole

end
-- ==== Proof.Bits.Frame.lean ====
/- The frame of the kernel: every run ends, faults nowhere and leaves the arguments as they were. -/
module

public import proofs.«01_k».proof.Proof.Bits.RunC
public import Idealize.ShloMosaic.Lib.Claim

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 9 → Bool := fun w => w.val == 6 || w.val == 7 || w.val == 8

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 3600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 64 := lt_of_lt_of_eq t.isLt (show cfg0.N = 64 from N_0)
  by_cases h0 : t.val % 16 = 0
  · by_cases h1 : t.val % 16 = 15
    · exfalso; omega
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases h1 : t.val % 16 = 15
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Whole

end
-- ==== Proof.Tile.lean ====
/- What one trip of the call computes, as functions of the contents it reads: the block of dq held in the output
   window and the four accumulators (dk and dv of the two heads of a pair), before and after a query block. -/
module

public import proofs.«01_k».proof.Proof.Gen.KernelIdeal.Skeleton
public import Idealize.ShloMosaic.Lib.VecWindow

@[expose] public section

set_option maxRecDepth 16384

noncomputable section

namespace Cert.KernelIdeal.AttnBwd

open Idealize.ShloMosaic Idealize.ShloMosaic.TcCoe Cert.KernelIdeal.Gen
open Idealize.ShloMosaic.VecWindow (window put)

variable {F : FTy → Type} [FloatOps F] [Named F]

/-- The six blocks the call reads at a grid point: all queries and output gradients of the pair, its tile of keys and
    values, its row statistics (log-sums, deltas). -/
structure Ins (F : FTy → Type) [FloatOps F] [Named F] where
  q : Vec F S8192x256 .bf16
  k : Vec F S512x256 .bf16
  v : Vec F S512x256 .bf16
  o : Vec F S8192x256 .bf16
  l : Vec F S1x16x8192 .f32
  d : Vec F S1x16x8192 .f32

/-- What the call carries from query block to query block: dq of the pair and the four accumulators of the tile. -/
structure St (F : FTy → Type) [FloatOps F] [Named F] where
  dq : Vec F S8192x256 .f32
  k0 : Vec F S512x128 .f32
  k1 : Vec F S512x128 .f32
  v0 : Vec F S512x128 .f32
  v1 : Vec F S512x128 .f32

/-- The rows of a pair's block at offsets `off`. -/
abbrev rowsOf (x : Vec F S8192x256 .bf16) (off : Fin 2 → ℕ) (inb : ∀ a, off a + S512x128.size a ≤ S8192x256.size a) :
    Vec F S512x128 .bf16 := window (s := S8192x256) x off S512x128.size inb

/-- The rows of dq at offsets `off`. -/
abbrev dqRows (x : Vec F S8192x256 .f32) (off : Fin 2 → ℕ) (inb : ∀ a, off a + S512x128.size a ≤ S8192x256.size a) :
    Vec F S512x128 .f32 := window (s := S8192x256) x off S512x128.size inb

/-- One row of statistics at offsets `off`. -/
abbrev statOf (x : Vec F S1x16x8192 .f32) (off : Fin 3 → ℕ) (inb : ∀ a, off a + S1x1x512.size a ≤ S1x16x8192.size a) :
    Vec F S1x1x512 .f32 := window (s := S1x16x8192) x off S1x1x512.size inb

/-- The first head's half of a tile. -/
abbrev half0 (x : Vec F S512x256 .bf16) : Vec F S512x128 .bf16 :=
  window (s := S512x256) x ![0, 0] S512x128.size inb_S512x256_S512x128_0_0

/-- The second head's half of a tile. -/
abbrev half1 (x : Vec F S512x256 .bf16) : Vec F S512x128 .bf16 :=
  window (s := S512x256) x ![0, 128] S512x128.size inb_S512x256_S512x128_0_128

/-- dq with the rows at `off` replaced. -/
abbrev putRows (x : Vec F S8192x256 .f32) (off : Fin 2 → ℕ) (w : Vec F S512x128 .f32) : Vec F S8192x256 .f32 :=
  put (s := S8192x256) x off S512x128.size w

/-- The gradient of the scores of one head over one query block, before the scale. -/
def dst0 (i : grid0.Coords) (X : Ins F) (n : Fin (k0_t1_loop i).trips) : FVec F S512x512 .bf16 :=
  k0_pay8 (rowsOf X.q (k0_off5 i n) (k0_off5_inb i n)) (rowsOf X.o (k0_off5 i n) (k0_off5_inb i n)) (half0 X.k)
    (statOf X.l (k0_off6 i n) (k0_off6_inb i n)) (statOf X.d (k0_off6 i n) (k0_off6_inb i n)) (half0 X.v)

/-- One trip of the loop over the query blocks below the diagonal. -/
def trip (i : grid0.Coords) (X : Ins F) (n : Fin (k0_t1_loop i).trips) (s : St F) : St F :=
  let Q0 := rowsOf X.q (k0_off5 i n) (k0_off5_inb i n)
  let O0 := rowsOf X.o (k0_off5 i n) (k0_off5_inb i n)
  let L0 := statOf X.l (k0_off6 i n) (k0_off6_inb i n)
  let dq' := putRows s.dq (k0_off5 i n) (k0_pay10 (k0_pay5 (half0 X.k)) (dst0 i X n) (dqRows s.dq (k0_off5 i n) (k0_off5_inb i n)))
  let Q1 := rowsOf X.q (k0_off7 i n) (k0_off7_inb i n)
  let O1 := rowsOf X.o (k0_off7 i n) (k0_off7_inb i n)
  let L1 := statOf X.l (k0_off8 i n) (k0_off8_inb i n)
  let D1 := statOf X.d (k0_off8 i n) (k0_off8_inb i n)
  { dq := putRows dq' (k0_off7 i n)
      (k0_pay60 (k0_pay12 O1) (k0_pay13 (half1 X.k)) (k0_pay14 D1) (k0_pay15 Q1 (half1 X.k) L1) (half1 X.v)
        (dqRows s.dq (k0_off7 i n) (k0_off7_inb i n)))
    k0 := k0_pay9 (k0_pay3 Q0) (dst0 i X n) s.k0
    k1 := k0_pay59 (k0_pay11 Q1) (k0_pay12 O1) (k0_pay14 D1) (k0_pay15 Q1 (half1 X.k) L1) (half1 X.v) s.k1
    v0 := k0_pay7 Q0 O0 (half0 X.k) L0 s.v0
    v1 := k0_pay57 (k0_pay16 Q1 O1 (half1 X.k) L1 s.v1) }

/-- The state after `n` trips from `G`. -/
def trips (i : grid0.Coords) (X : Ins F) (G : St F) : ℕ → St F
  | 0 => G
  | n + 1 => if h : n < (k0_t1_loop i).trips then trip i X ⟨n, h⟩ (trips i X G n) else trips i X G n

theorem trips_succ (i : grid0.Coords) (X : Ins F) (G : St F) (n : Fin (k0_t1_loop i).trips) :
    trips i X G (n.val + 1) = trip i X n (trips i X G n.val) := dif_pos n.isLt

/-- The query block on the diagonal, from the accumulators at zero and the dq held. -/
def diag (i : grid0.Coords) (X : Ins F) (dq : Vec F S8192x256 .f32) : St F :=
  let Q0 := rowsOf X.q (k0_off1 i) (k0_off1_inb i)
  let O0 := rowsOf X.o (k0_off1 i) (k0_off1_inb i)
  let L0 := statOf X.l (k0_off2 i) (k0_off2_inb i)
  let D0 := statOf X.d (k0_off2 i) (k0_off2_inb i)
  let K0 := half0 X.k
  let V0 := half0 X.v
  let dq' := putRows dq (k0_off1 i) (k0_pay47 (k0_pay45 (dqRows dq (k0_off1 i) (k0_off1_inb i)))
    (k0_pay46 (k0_pay37 O0) (k0_pay38 K0) (k0_pay39 Q0 K0) k0_pay40 L0 D0 V0))
  let Q1 := rowsOf X.q (k0_off3 i) (k0_off3_inb i)
  let O1 := rowsOf X.o (k0_off3 i) (k0_off3_inb i)
  let L1 := statOf X.l (k0_off4 i) (k0_off4_inb i)
  let D1 := statOf X.d (k0_off4 i) (k0_off4_inb i)
  let K1 := half1 X.k
  let V1 := half1 X.v
  let r := iota .tc S512x512 32 [0] iota_S512x512_d0_w32
  let l := iota .tc S512x512 32 [1] iota_S512x512_d1_w32
  { dq := putRows dq' (k0_off3 i) (k0_pay56 (k0_pay50 K1) (k0_pay51 r l Q1 K1 L1) (k0_pay53 O1 D1 V1)
      (dqRows dq (k0_off3 i) (k0_off3_inb i)))
    k0 := k0_pay44 (k0_pay36 Q0) (k0_pay37 O0) (k0_pay39 Q0 K0) k0_pay40 L0 D0 V0 (k0_pay31 (F := F))
    k1 := k0_pay55 (k0_pay48 Q1) (k0_pay51 r l Q1 K1 L1) (k0_pay53 O1 D1 V1) (k0_pay32 (F := F))
    v0 := k0_pay42 (k0_pay37 O0) (k0_pay39 Q0 K0) k0_pay40 L0 (k0_pay33 (F := F))
    v1 := k0_pay52 r l Q1 O1 K1 L1 (k0_pay34 (F := F)) }

/-- The state at the end of a grid point's sweep over the query blocks. -/
def sweep (i : grid0.Coords) (X : Ins F) (dq : Vec F S8192x256 .f32) : St F :=
  trips i X (diag i X dq) (k0_t1_loop i).trips

/-- The tile of dk the point stores: both heads' accumulators, scaled. -/
def dkTile (s : St F) (x : Vec F S512x256 .f32) : Vec F S512x256 .f32 :=
  put (s := S512x256) (put (s := S512x256) x ![0, 0] S512x128.size (k0_pay65 s.k0)) ![0, 128] S512x128.size
    (k0_pay1 s.k1 (Named.named κ "scale" 0x3DD105EC#32))

/-- The tile of dv the point stores: both heads' accumulators. -/
def dvTile (s : St F) (x : Vec F S512x256 .f32) : Vec F S512x256 .f32 :=
  put (s := S512x256) (put (s := S512x256) x ![0, 0] S512x128.size s.v0) ![0, 128] S512x128.size s.v1

end Cert.KernelIdeal.AttnBwd

end
-- ==== Proof.Setup.lean ====
/- Which of the call's two conditional parts a grid point takes, its staging and scratch buffers, and the two tiles a
   point stores whole. -/
module

public import proofs.«01_k».proof.Proof.Tile
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.AttnBwd

open Idealize.ShloMosaic Idealize.ShloMosaic.TcCoe Idealize.ShloMosaic.Tactic Cert.KernelIdeal.Gen
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is a pair's first: dq is filled with zeros. -/
abbrev isFirst (i : grid0.Coords) : Prop :=
  (Scalar.cmpi .ne (Scalar.extui (Scalar.cmpi .eq (BitVec.ofNat 32 (i 1).val) 0#32)) 0#32) = 1#1

/-- The point is a pair's last: dq is scaled. -/
abbrev isLast (i : grid0.Coords) : Prop :=
  (Scalar.cmpi .ne (Scalar.extui (Scalar.cmpi .eq (BitVec.ofNat 32 (i 1).val) 15#32)) 0#32) = 1#1

theorem coord0 (t : Fin cfg0.N) : (grid0.coords t 0).val = t.val / 16 % 4 := Pipeline.Grid.coords_val t 0 (by decide) rfl
theorem coord1 (t : Fin cfg0.N) : (grid0.coords t 1).val = t.val / 1 % 16 := Pipeline.Grid.coords_val t 1 (by decide) rfl

theorem isFirst_iff (t : Fin cfg0.N) : isFirst (grid0.coords t) ↔ t.val % 16 = 0 := by
  have ht : t.val < 64 := Nat.lt_of_lt_of_eq t.isLt N_0
  simp only [isFirst, coord0, coord1]
  word_cmp
theorem isLast_iff (t : Fin cfg0.N) : isLast (grid0.coords t) ↔ t.val % 16 = 15 := by
  have ht : t.val < 64 := Nat.lt_of_lt_of_eq t.isLt N_0
  simp only [isLast, coord0, coord1]
  word_cmp

abbrev st_0 (t : Fin cfg0.N) : Memref sig .tc .vmem S8192x256 .bf16 := win0_0.stage (cfg0.slots t 0)
abbrev st_1 (t : Fin cfg0.N) : Memref sig .tc .vmem S512x256 .bf16 := win0_1.stage (cfg0.slots t 1)
abbrev st_2 (t : Fin cfg0.N) : Memref sig .tc .vmem S512x256 .bf16 := win0_2.stage (cfg0.slots t 2)
abbrev st_3 (t : Fin cfg0.N) : Memref sig .tc .vmem S8192x256 .bf16 := win0_3.stage (cfg0.slots t 3)
abbrev st_4 (t : Fin cfg0.N) : Memref sig .tc .vmem S1x16x8192 .f32 := win0_4.stage (cfg0.slots t 4)
abbrev st_5 (t : Fin cfg0.N) : Memref sig .tc .vmem S1x16x8192 .f32 := win0_5.stage (cfg0.slots t 5)
abbrev st_6 (t : Fin cfg0.N) : Memref sig .tc .vmem S8192x256 .f32 := win0_6.stage (cfg0.slots t 6)
abbrev st_7 (t : Fin cfg0.N) : Memref sig .tc .vmem S512x256 .f32 := win0_7.stage (cfg0.slots t 7)
abbrev st_8 (t : Fin cfg0.N) : Memref sig .tc .vmem S512x256 .f32 := win0_8.stage (cfg0.slots t 8)
abbrev sc_0 : Memref sig .tc .vmem S512x128 .f32 := Memref.whole cc0_scratch0
abbrev sc_1 : Memref sig .tc .vmem S512x128 .f32 := Memref.whole cc0_scratch1
abbrev sc_2 : Memref sig .tc .vmem S512x128 .f32 := Memref.whole cc0_scratch2
abbrev sc_3 : Memref sig .tc .vmem S512x128 .f32 := Memref.whole cc0_scratch3

/-- What the call keeps between points: its four accumulators at any contents, and the generator register. -/
theorem keeps_eq (c : Dev nD) :
    (Pipeline.ΦA spec0 c : sProp 𝕄)
      = iprop(iprop((∃ d, owns (c : Thread nD τ) sc_0 fullShare d) ∗ (∃ d, owns (c : Thread nD τ) sc_1 fullShare d)
          ∗ (∃ d, owns (c : Thread nD τ) sc_2 fullShare d) ∗ (∃ d, owns (c : Thread nD τ) sc_3 fullShare d)) ∗ (∃ r, prngReg c r)) := by
  unfold Pipeline.ΦA; rw [scopedRest0_eq]; simp only [sc_0, sc_1, sc_2, sc_3, owns_whole]; try rfl

/-- Two halves put over a tile leave nothing of it. -/
theorem put_halves {α : Type} (x x' : S512x256.Idx → α) (w w' : S512x128.Idx → α) :
    put (s := S512x256) (put (s := S512x256) x ![0, 0] S512x128.size w) ![0, 128] S512x128.size w'
      = put (s := S512x256) (put (s := S512x256) x' ![0, 0] S512x128.size w) ![0, 128] S512x128.size w' := by
  funext y
  unfold put
  split
  · rfl
  · rename_i h1
    split
    · rfl
    · rename_i h2
      exfalso
      have y0 : (y 0).val < 512 := (y 0).isLt
      have y1 : (y 1).val < 256 := (y 1).isLt
      by_cases hy : (y 1).val < 128
      · exact h2 (by intro a; match a with
          | 0 => exact ⟨Nat.zero_le _, by show (y 0).val < 0 + 512; omega⟩
          | 1 => exact ⟨Nat.zero_le _, by show (y 1).val < 0 + 128; omega⟩)
      · exact h1 (by intro a; match a with
          | 0 => exact ⟨Nat.zero_le _, by show (y 0).val < 0 + 512; omega⟩
          | 1 => exact ⟨by show 128 ≤ (y 1).val; omega, by show (y 1).val < 128 + 128; omega⟩)

/-- Any contents of a tile. -/
def someTile : Vec F S512x256 .f32 := fun _ => Scalar.ofBits .f32 0x00000000#32

theorem dkTile_eq (s : St F) (x : Vec F S512x256 .f32) : dkTile s x = dkTile s someTile := put_halves _ _ _ _
theorem dvTile_eq (s : St F) (x : Vec F S512x256 .f32) : dvTile s x = dvTile s someTile := put_halves _ _ _ _

end Cert.KernelIdeal.AttnBwd

end
-- ==== Proof.Loop.lean ====
/- The loop over the query blocks below the diagonal: one trip run, and the loop by the state it carries. -/
module

public import proofs.«01_k».proof.Proof.Tile
public import Idealize.ShloMosaic.Lib.Exec
public import Idealize.ShloMosaic.Lib.Tactic
public import Idealize.ShloMosaic.Lib.Pipeline.Kit
public import Idealize.ShloMosaic.Lib.VecWindow

@[expose] public section

set_option maxRecDepth 16384
set_option maxHeartbeats 4000000

noncomputable section

namespace Cert.KernelIdeal.AttnBwd

open Idealize.ShloMosaic Idealize.ShloMosaic.TcCoe Idealize.ShloMosaic.Tactic Cert.KernelIdeal.Gen
open Idealize.ShloMosaic.VecWindow (window put)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄K" => MT nD τ sig Unit (Elt F) ℕ (UR sig nD τ) ℕ

/-- A load through a whole view at a block is the block of what the view reads. -/
theorem readAt_window {s : Shape} {e : EltTy} (v : View sig .tc .vmem s e) (f : v.ty.Contents (Elt F)) (off size : Fin s.rank → ℕ)
    (inb : ∀ a, off a + size a ≤ s.size a) :
    v.readAt (Elt F) (Rect.unit off size inb).toLoadRect f = window (v.read (Elt F) f) off size inb := rfl

/-- A store of a block, read: the block put over what was read before. -/
theorem read_put {s : Shape} {e : EltTy} (v : View sig .tc .vmem s e) (f : v.ty.Contents (Elt F)) (off size : Fin s.rank → ℕ)
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

section
variable (𝒱 : Variants) (c : Dev nD) (bd : Option 𝒱.V) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x256 .bf16) (harg4 : arg4.IsWhole) (arg5 : Memref sig .tc .vmem S8192x256 .bf16) (harg5 : arg5.IsWhole)
  (arg6 : Memref sig .tc .vmem S1x16x8192 .f32) (harg6 : arg6.IsWhole) (arg7 : Memref sig .tc .vmem S1x16x8192 .f32) (harg7 : arg7.IsWhole)
  (arg8 : Memref sig .tc .vmem S8192x256 .f32) (harg8 : arg8.IsWhole) (arg9 : Memref sig .tc .vmem S512x256 .f32) (harg9 : arg9.IsWhole)
  (arg10 : Memref sig .tc .vmem S512x256 .f32) (harg10 : arg10.IsWhole) (arg11 : Memref sig .tc .vmem S512x128 .f32) (harg11 : arg11.IsWhole)
  (arg12 : Memref sig .tc .vmem S512x128 .f32) (harg12 : arg12.IsWhole) (arg13 : Memref sig .tc .vmem S512x128 .f32) (harg13 : arg13.IsWhole)
  (arg14 : Memref sig .tc .vmem S512x128 .f32) (harg14 : arg14.IsWhole)

/-- What the call reads, of the contents of the six blocks. -/
abbrev insOf (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) : Ins F :=
  ⟨arg2.view.read (Elt F) X2, arg3.view.read (Elt F) X3, arg4.view.read (Elt F) X4, arg5.view.read (Elt F) X5, arg6.view.read (Elt F) X6, arg7.view.read (Elt F) X7⟩

/-- What the call carries, of the contents of the five buffers it writes. -/
abbrev stOf (f8 : BufTy.Contents (Elt F) arg8.view.ty) (f11 : BufTy.Contents (Elt F) arg11.view.ty) (f12 : BufTy.Contents (Elt F) arg12.view.ty)
    (f13 : BufTy.Contents (Elt F) arg13.view.ty) (f14 : BufTy.Contents (Elt F) arg14.view.ty) : St F :=
  ⟨arg8.view.read (Elt F) f8, arg11.view.read (Elt F) f11, arg12.view.read (Elt F) f12, arg13.view.read (Elt F) f13, arg14.view.read (Elt F) f14⟩

/-- The six blocks read, at their contents. -/
abbrev Reads (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) : sProp 𝕄K :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7))

set_option maxHeartbeats 8000000 in
/-- One trip, at any contents: the five buffers end reading the trip's state. -/
theorem trip_run (E : Set ℕ) (arg1 : BitVec 32) (v22 : BitVec 32) (v75 : FVec F S512x128 .bf16) (v80 : FVec F S512x128 .bf16)
    (v95 : FVec F S512x512 .f32) (v107 : FVec F S512x512 .f32) (v123 : BitVec 32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (k : Fin (k0_t1_loop i).trips)
    (f8 : BufTy.Contents (Elt F) arg8.view.ty) (f11 : BufTy.Contents (Elt F) arg11.view.ty) (f12 : BufTy.Contents (Elt F) arg12.view.ty)
    (f13 : BufTy.Contents (Elt F) arg13.view.ty) (f14 : BufTy.Contents (Elt F) arg14.view.ty) :
    (iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (arg6.view.loc (c : Thread nD τ) ↦[arg6.view.set]{fullShare} X6) ∗ (arg7.view.loc (c : Thread nD τ) ↦[arg7.view.set]{fullShare} X7)
      ∗ (arg8.view.loc (c : Thread nD τ) ↦[arg8.view.set]{fullShare} f8) ∗ (arg11.view.loc (c : Thread nD τ) ↦[arg11.view.set]{fullShare} f11)
      ∗ (arg12.view.loc (c : Thread nD τ) ↦[arg12.view.set]{fullShare} f12) ∗ (arg13.view.loc (c : Thread nD τ) ↦[arg13.view.set]{fullShare} f13)
      ∗ (arg14.view.loc (c : Thread nD τ) ↦[arg14.view.set]{fullShare} f14)) : sProp 𝕄K)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 k PUnit.unit)
          (fun _ => iprop((arg2.view.loc (c : Thread nD τ) ↦[arg2.view.set]{fullShare} X2) ∗ (arg3.view.loc (c : Thread nD τ) ↦[arg3.view.set]{fullShare} X3)
            ∗ (arg4.view.loc (c : Thread nD τ) ↦[arg4.view.set]{fullShare} X4) ∗ (arg5.view.loc (c : Thread nD τ) ↦[arg5.view.set]{fullShare} X5)
            ∗ (arg6.view.loc (c : Thread nD τ) ↦[arg6.view.set]{fullShare} X6) ∗ (arg7.view.loc (c : Thread nD τ) ↦[arg7.view.set]{fullShare} X7)
            ∗ (∃ f, (arg8.view.loc (c : Thread nD τ) ↦[arg8.view.set]{fullShare} f) ∗ ⌜arg8.view.read (Elt F) f = (trip i (insOf arg2 arg3 arg4 arg5 arg6 arg7 X2 X3 X4 X5 X6 X7) k (stOf arg8 arg11 arg12 arg13 arg14 f8 f11 f12 f13 f14)).dq⌝)
            ∗ (∃ f, (arg11.view.loc (c : Thread nD τ) ↦[arg11.view.set]{fullShare} f) ∗ ⌜arg11.view.read (Elt F) f = (trip i (insOf arg2 arg3 arg4 arg5 arg6 arg7 X2 X3 X4 X5 X6 X7) k (stOf arg8 arg11 arg12 arg13 arg14 f8 f11 f12 f13 f14)).k0⌝)
            ∗ (∃ f, (arg12.view.loc (c : Thread nD τ) ↦[arg12.view.set]{fullShare} f) ∗ ⌜arg12.view.read (Elt F) f = (trip i (insOf arg2 arg3 arg4 arg5 arg6 arg7 X2 X3 X4 X5 X6 X7) k (stOf arg8 arg11 arg12 arg13 arg14 f8 f11 f12 f13 f14)).k1⌝)
            ∗ (∃ f, (arg13.view.loc (c : Thread nD τ) ↦[arg13.view.set]{fullShare} f) ∗ ⌜arg13.view.read (Elt F) f = (trip i (insOf arg2 arg3 arg4 arg5 arg6 arg7 X2 X3 X4 X5 X6 X7) k (stOf arg8 arg11 arg12 arg13 arg14 f8 f11 f12 f13 f14)).v0⌝)
            ∗ (∃ f, (arg14.view.loc (c : Thread nD τ) ↦[arg14.view.set]{fullShare} f) ∗ ⌜arg14.view.read (Elt F) f = (trip i (insOf arg2 arg3 arg4 arg5 arg6 arg7 X2 X3 X4 X5 X6 X7) k (stOf arg8 arg11 arg12 arg13 arg14 f8 f11 f12 f13 f14)).v1⌝))) := by
  unfold k0_t1_body
  iintro ⟨HR2, HR3, HR4, HR5, HR6, HR7, H8, H11, H12, H13, H14⟩
  sl_exec
  sl_step
  isplitl [HR2]; · iexact HR2
  isplitl [HR3]; · iexact HR3
  isplitl [HR4]; · iexact HR4
  isplitl [HR5]; · iexact HR5
  isplitl [HR6]; · iexact HR6
  isplitl [HR7]; · iexact HR7
  isplitl [H8]
  · iexists _; isplitl [H8]; · iexact H8
    ipureintro
    sl_unfold_run_names
    simp only [readAt_window, read_put, View.writes_nil]
    rfl
  isplitl [H11]
  · iexists _; isplitl [H11]; · iexact H11
    ipureintro
    sl_unfold_run_names
    rw [View.read_writes_full, View.readAt_full arg11.view]
    rfl
  isplitl [H12]
  · iexists _; isplitl [H12]; · iexact H12
    ipureintro
    sl_unfold_run_names
    rw [View.read_writes_full, View.readAt_full arg12.view]
    rfl
  isplitl [H13]
  · iexists _; isplitl [H13]; · iexact H13
    ipureintro
    sl_unfold_run_names
    rw [View.read_writes_full, View.readAt_full arg13.view]
    rfl
  iexists _; isplitl [H14]; · iexact H14
  ipureintro
  sl_unfold_run_names
  rw [View.read_writes_full, View.readAt_full arg14.view]
  rfl

variable (arg1 : BitVec 32) (v22 : BitVec 32) (v75 : FVec F S512x128 .bf16) (v80 : FVec F S512x128 .bf16)
    (v95 : FVec F S512x512 .f32) (v107 : FVec F S512x512 .f32) (v123 : BitVec 32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (G8 : BufTy.Contents (Elt F) arg8.view.ty) (G11 : BufTy.Contents (Elt F) arg11.view.ty) (G12 : BufTy.Contents (Elt F) arg12.view.ty)
    (G13 : BufTy.Contents (Elt F) arg13.view.ty) (G14 : BufTy.Contents (Elt F) arg14.view.ty)

/-- The state before trip `k` of the loop entered at contents `G·`. -/
abbrev stAt (k : ℕ) : St F :=
  trips i (insOf arg2 arg3 arg4 arg5 arg6 arg7 X2 X3 X4 X5 X6 X7) (stOf arg8 arg11 arg12 arg13 arg14 G8 G11 G12 G13 G14) k

/-- What the loop holds before trip `k`: the blocks read, and five buffers that read the state. -/
abbrev opened (k : ℕ) : sProp 𝕄K :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
      ∗ (∃ f, (arg8.view.loc (c : Thread nD τ) ↦[arg8.view.set]{fullShare} f) ∗ ⌜arg8.view.read (Elt F) f = (stAt i arg2 arg3 arg4 arg5 arg6 arg7 arg8 arg11 arg12 arg13 arg14 X2 X3 X4 X5 X6 X7 G8 G11 G12 G13 G14 k).dq⌝) ∗ (∃ f, (arg11.view.loc (c : Thread nD τ) ↦[arg11.view.set]{fullShare} f) ∗ ⌜arg11.view.read (Elt F) f = (stAt i arg2 arg3 arg4 arg5 arg6 arg7 arg8 arg11 arg12 arg13 arg14 X2 X3 X4 X5 X6 X7 G8 G11 G12 G13 G14 k).k0⌝) ∗ (∃ f, (arg12.view.loc (c : Thread nD τ) ↦[arg12.view.set]{fullShare} f) ∗ ⌜arg12.view.read (Elt F) f = (stAt i arg2 arg3 arg4 arg5 arg6 arg7 arg8 arg11 arg12 arg13 arg14 X2 X3 X4 X5 X6 X7 G8 G11 G12 G13 G14 k).k1⌝) ∗ (∃ f, (arg13.view.loc (c : Thread nD τ) ↦[arg13.view.set]{fullShare} f) ∗ ⌜arg13.view.read (Elt F) f = (stAt i arg2 arg3 arg4 arg5 arg6 arg7 arg8 arg11 arg12 arg13 arg14 X2 X3 X4 X5 X6 X7 G8 G11 G12 G13 G14 k).v0⌝) ∗ (∃ f, (arg14.view.loc (c : Thread nD τ) ↦[arg14.view.set]{fullShare} f) ∗ ⌜arg14.view.read (Elt F) f = (stAt i arg2 arg3 arg4 arg5 arg6 arg7 arg8 arg11 arg12 arg13 arg14 X2 X3 X4 X5 X6 X7 G8 G11 G12 G13 G14 k).v1⌝))

/-- The same, with the contents at entry spelt out before the first trip. -/
abbrev held : ℕ → sProp 𝕄K
  | 0 => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} G8) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14))
  | k + 1 => opened c i arg2 arg3 arg4 arg5 arg6 arg7 arg8 arg11 arg12 arg13 arg14 X2 X3 X4 X5 X6 X7 G8 G11 G12 G13 G14 (k + 1)

theorem held_opened (k : ℕ) : held c i arg2 arg3 arg4 arg5 arg6 arg7 arg8 arg11 arg12 arg13 arg14 X2 X3 X4 X5 X6 X7 G8 G11 G12 G13 G14 k ⊢ opened c i arg2 arg3 arg4 arg5 arg6 arg7 arg8 arg11 arg12 arg13 arg14 X2 X3 X4 X5 X6 X7 G8 G11 G12 G13 G14 k := by
  cases k with
  | zero =>
    iintro ⟨HR2, HR3, HR4, HR5, HR6, HR7, H8, H11, H12, H13, H14⟩
    isplitl [HR2]; · iexact HR2
    isplitl [HR3]; · iexact HR3
    isplitl [HR4]; · iexact HR4
    isplitl [HR5]; · iexact HR5
    isplitl [HR6]; · iexact HR6
    isplitl [HR7]; · iexact HR7
    isplitl [H8]
    · iexists _; isplitl [H8]; · iexact H8
      ipureintro; rfl
    isplitl [H11]
    · iexists _; isplitl [H11]; · iexact H11
      ipureintro; rfl
    isplitl [H12]
    · iexists _; isplitl [H12]; · iexact H12
      ipureintro; rfl
    isplitl [H13]
    · iexists _; isplitl [H13]; · iexact H13
      ipureintro; rfl
    iexists _; isplitl [H14]; · iexact H14
    ipureintro; rfl
  | succ k => exact .rfl

set_option warn.classDefReducibility false in
/-- The loop by its invariant: the blocks read stay, and the five buffers read the state before trip `k`. -/
@[sl_loop] def loopInv_below (E : Set ℕ) :
    Idealize.ShloMosaic.LoopInv (M := MT nD τ sig Unit (Elt F) ℕ (UR sig nD τ) ℕ) Idealize.ShloMosaic.frame (wpE (defs₀ (F := F)) 𝒱 (c : Thread nD τ) bd) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123) where
  inv k _ := held c i arg2 arg3 arg4 arg5 arg6 arg7 arg8 arg11 arg12 arg13 arg14 X2 X3 X4 X5 X6 X7 G8 G11 G12 G13 G14 k
  step k acc := by
    refine (held_opened c i arg2 arg3 arg4 arg5 arg6 arg7 arg8 arg11 arg12 arg13 arg14 X2 X3 X4 X5 X6 X7 G8 G11 G12 G13 G14 k.val).trans ?_
    show opened c i arg2 arg3 arg4 arg5 arg6 arg7 arg8 arg11 arg12 arg13 arg14 X2 X3 X4 X5 X6 X7 G8 G11 G12 G13 G14 k.val ⊢ wp _ _ _ _ (fun _ => opened c i arg2 arg3 arg4 arg5 arg6 arg7 arg8 arg11 arg12 arg13 arg14 X2 X3 X4 X5 X6 X7 G8 G11 G12 G13 G14 (k.val + 1))
    iintro ⟨HR2, HR3, HR4, HR5, HR6, HR7, ⟨%f8, H8, %h8⟩, ⟨%f11, H11, %h11⟩, ⟨%f12, H12, %h12⟩, ⟨%f13, H13, %h13⟩, ⟨%f14, H14, %h14⟩⟩
    have hst : stOf arg8 arg11 arg12 arg13 arg14 f8 f11 f12 f13 f14
        = stAt i arg2 arg3 arg4 arg5 arg6 arg7 arg8 arg11 arg12 arg13 arg14 X2 X3 X4 X5 X6 X7 G8 G11 G12 G13 G14 k.val := by
      unfold stOf; rw [h8, h11, h12, h13, h14]
    have hs : stAt i arg2 arg3 arg4 arg5 arg6 arg7 arg8 arg11 arg12 arg13 arg14 X2 X3 X4 X5 X6 X7 G8 G11 G12 G13 G14 (k.val + 1)
        = trip i (insOf arg2 arg3 arg4 arg5 arg6 arg7 X2 X3 X4 X5 X6 X7) k (stOf arg8 arg11 arg12 arg13 arg14 f8 f11 f12 f13 f14) :=
      (trips_succ i _ _ k).trans (congrArg _ hst.symm)
    unfold opened; rw [hs]
    iapply (trip_run 𝒱 c bd i arg2 harg2 arg3 harg3 arg4 harg4 arg5 harg5 arg6 harg6 arg7 harg7 arg8 harg8 arg9 harg9 arg10 harg10 arg11 harg11 arg12 harg12 arg13 harg13 arg14 harg14 E arg1 v22 v75 v80 v95 v107 v123 X2 X3 X4 X5 X6 X7 k f8 f11 f12 f13 f14)
    isplitl [HR2]; · iexact HR2
    isplitl [HR3]; · iexact HR3
    isplitl [HR4]; · iexact HR4
    isplitl [HR5]; · iexact HR5
    isplitl [HR6]; · iexact HR6
    isplitl [HR7]; · iexact HR7
    isplitl [H8]; · iexact H8
    isplitl [H11]; · iexact H11
    isplitl [H12]; · iexact H12
    isplitl [H13]; · iexact H13
    iexact H14

/-- At its end the loop hands back five buffers that read the state after every trip. -/
instance loopExit_below (E : Set ℕ) : LoopExit (loopInv_below 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X2 X3 X4 X5 X6 X7 G8 G11 G12 G13 G14 E) where
  post _ := opened c i arg2 arg3 arg4 arg5 arg6 arg7 arg8 arg11 arg12 arg13 arg14 X2 X3 X4 X5 X6 X7 G8 G11 G12 G13 G14 (k0_t1_loop i).trips
  exit acc := held_opened c i arg2 arg3 arg4 arg5 arg6 arg7 arg8 arg11 arg12 arg13 arg14 X2 X3 X4 X5 X6 X7 G8 G11 G12 G13 G14 (k0_t1_loop i).trips

end

end Cert.KernelIdeal.AttnBwd

end
-- ==== Proof.Start.lean ====
/- From the contents the loop is entered with to the state it starts from. -/
module

public import proofs.«01_k».proof.Proof.Loop
public import Idealize.ShloMosaic.Lib.LoopRemainder

@[expose] public section

set_option maxRecDepth 16384

noncomputable section

namespace Cert.KernelIdeal.AttnBwd

open Idealize.ShloMosaic Idealize.ShloMosaic.TcCoe Idealize.ShloMosaic.Tactic Cert.KernelIdeal.Gen
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents the loop leaves, when those it is entered with read the state `D`. -/
theorem from_start (i : grid0.Coords) (arg2 : Memref sig .tc .vmem S8192x256 .bf16) (arg3 : Memref sig .tc .vmem S512x256 .bf16) (arg4 : Memref sig .tc .vmem S512x256 .bf16) (arg5 : Memref sig .tc .vmem S8192x256 .bf16) (arg6 : Memref sig .tc .vmem S1x16x8192 .f32) (arg7 : Memref sig .tc .vmem S1x16x8192 .f32) (arg8 : Memref sig .tc .vmem S8192x256 .f32) (arg11 : Memref sig .tc .vmem S512x128 .f32) (arg12 : Memref sig .tc .vmem S512x128 .f32) (arg13 : Memref sig .tc .vmem S512x128 .f32) (arg14 : Memref sig .tc .vmem S512x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (G8 f8 : BufTy.Contents (Elt F) arg8.view.ty) (G11 f11 : BufTy.Contents (Elt F) arg11.view.ty) (G12 f12 : BufTy.Contents (Elt F) arg12.view.ty) (G13 f13 : BufTy.Contents (Elt F) arg13.view.ty) (G14 f14 : BufTy.Contents (Elt F) arg14.view.ty) (n : ℕ) (D : St F)
    (h8 : arg8.view.read (Elt F) f8 = (stAt i arg2 arg3 arg4 arg5 arg6 arg7 arg8 arg11 arg12 arg13 arg14 X2 X3 X4 X5 X6 X7 G8 G11 G12 G13 G14 n).dq)
    (h11 : arg11.view.read (Elt F) f11 = (stAt i arg2 arg3 arg4 arg5 arg6 arg7 arg8 arg11 arg12 arg13 arg14 X2 X3 X4 X5 X6 X7 G8 G11 G12 G13 G14 n).k0)
    (h12 : arg12.view.read (Elt F) f12 = (stAt i arg2 arg3 arg4 arg5 arg6 arg7 arg8 arg11 arg12 arg13 arg14 X2 X3 X4 X5 X6 X7 G8 G11 G12 G13 G14 n).k1)
    (h13 : arg13.view.read (Elt F) f13 = (stAt i arg2 arg3 arg4 arg5 arg6 arg7 arg8 arg11 arg12 arg13 arg14 X2 X3 X4 X5 X6 X7 G8 G11 G12 G13 G14 n).v0)
    (h14 : arg14.view.read (Elt F) f14 = (stAt i arg2 arg3 arg4 arg5 arg6 arg7 arg8 arg11 arg12 arg13 arg14 X2 X3 X4 X5 X6 X7 G8 G11 G12 G13 G14 n).v1)
    (g8 : arg8.view.read (Elt F) G8 = D.dq) (g11 : arg11.view.read (Elt F) G11 = D.k0) (g12 : arg12.view.read (Elt F) G12 = D.k1) (g13 : arg13.view.read (Elt F) G13 = D.v0) (g14 : arg14.view.read (Elt F) G14 = D.v1) :
    arg8.view.read (Elt F) f8 = (trips i (insOf arg2 arg3 arg4 arg5 arg6 arg7 X2 X3 X4 X5 X6 X7) D n).dq ∧ arg11.view.read (Elt F) f11 = (trips i (insOf arg2 arg3 arg4 arg5 arg6 arg7 X2 X3 X4 X5 X6 X7) D n).k0 ∧ arg12.view.read (Elt F) f12 = (trips i (insOf arg2 arg3 arg4 arg5 arg6 arg7 X2 X3 X4 X5 X6 X7) D n).k1 ∧ arg13.view.read (Elt F) f13 = (trips i (insOf arg2 arg3 arg4 arg5 arg6 arg7 X2 X3 X4 X5 X6 X7) D n).v0 ∧ arg14.view.read (Elt F) f14 = (trips i (insOf arg2 arg3 arg4 arg5 arg6 arg7 X2 X3 X4 X5 X6 X7) D n).v1 := by
  have e : stOf arg8 arg11 arg12 arg13 arg14 G8 G11 G12 G13 G14 = D := by
    obtain ⟨a, b, c, d, e⟩ := D
    simp only at g8 g11 g12 g13 g14
    unfold stOf; rw [g8, g11, g12, g13, g14]
  unfold stAt at h8 h11 h12 h13 h14
  rw [e] at h8 h11 h12 h13 h14
  exact ⟨h8, h11, h12, h13, h14⟩

/-- A store of the whole block leaves nothing of what was there. -/
theorem put_all (x w : Vec F S8192x256 .f32) : put (s := S8192x256) x ![0, 0] S8192x256.size w = w := by
  funext y
  have h : ∀ a : Fin S8192x256.rank, (![0, 0] : Fin 2 → ℕ) a ≤ (y a).val ∧ (y a).val < (![0, 0] : Fin 2 → ℕ) a + S8192x256.size a := by
    intro a; match a with
    | 0 => exact ⟨Nat.zero_le _, by have := (y 0).isLt; simpa using this⟩
    | 1 => exact ⟨Nat.zero_le _, by have := (y 1).isLt; simpa using this⟩
  refine (dif_pos h).trans (congrArg w (funext fun a => Fin.ext ?_))
  match a with
  | 0 => exact Nat.sub_zero _
  | 1 => exact Nat.sub_zero _

/-- The second head's rows of dq are not those stored for the first. -/
theorem second_half (i : grid0.Coords) (x : Vec F S8192x256 .f32) (w : Vec F S512x128 .f32) :
    window (s := S8192x256) (put (s := S8192x256) x (k0_off1 i) S512x128.size w) (k0_off3 i) S512x128.size (k0_off3_inb i)
      = window (s := S8192x256) x (k0_off3 i) S512x128.size (k0_off3_inb i) :=
  VecWindow.window_put_of_disjoint _ _ _ _ _ _ _ (1 : Fin 2) (Or.inr (Nat.le_refl 128))

end Cert.KernelIdeal.AttnBwd

end
-- ==== Proof.RunFirst.lean ====
/- The call's body at a pair's first point: dq starts from zeros. -/
module

public import proofs.«01_k».proof.Proof.Setup
public import proofs.«01_k».proof.Proof.Start
public import Idealize.ShloMosaic.Lib.LoopRemainder

@[expose] public section

set_option maxRecDepth 16384

noncomputable section

namespace Cert.KernelIdeal.AttnBwd

open Idealize.ShloMosaic Idealize.ShloMosaic.TcCoe Idealize.ShloMosaic.Tactic Cert.KernelIdeal.Gen
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a pair's first point: dq starts from zeros. -/
theorem runFirst (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : isFirst i) (hc1 : ¬isLast i)
    (x0 : Vec F S8192x256 .bf16) (x1 : Vec F S512x256 .bf16) (x2 : Vec F S512x256 .bf16) (x3 : Vec F S8192x256 .bf16) (x4 : Vec F S1x16x8192 .f32) (x5 : Vec F S1x16x8192 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (sweep i ⟨x0, x1, x2, x3, x4, x5⟩ (k0_pay35 (F := F))).dq
          ∗ owns (c : Thread nD τ) arg9 fullShare (dkTile (sweep i ⟨x0, x1, x2, x3, x4, x5⟩ (k0_pay35 (F := F))) someTile)
          ∗ owns (c : Thread nD τ) arg10 fullShare (dvTile (sweep i ⟨x0, x1, x2, x3, x4, x5⟩ (k0_pay35 (F := F))) someTile) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  sl_exec (disch := first | sl_exact hc0 | sl_exact hc1)
  sl_step
  iapply Hk
  subst hf0 hf1 hf2 hf3 hf4 hf5
  obtain ⟨e8, e11, e12, e13, e14⟩ := from_start i arg2 arg3 arg4 arg5 arg6 arg7 arg8 arg11 arg12 arg13 arg14 _ _ _ _ _ _ _ _ _ _ _ _ _ _ _ _ _
    (diag i (insOf arg2 arg3 arg4 arg5 arg6 arg7 f0 f1 f2 f3 f4 f5) (k0_pay35 (F := F))) hL7 hL9 hL11 hL13 hL15
    (by sl_unfold_run_names; simp only [readAt_window, read_put, View.writes_nil]; rw [put_all, second_half]
        rfl)
    (by sl_unfold_run_names; rw [View.read_writes_full]; try rw [View.readCov_full]
        rfl)
    (by sl_unfold_run_names; rw [View.read_writes_full]; try rw [View.readCov_full]
        rfl)
    (by sl_unfold_run_names; rw [View.read_writes_full]; try rw [View.readCov_full]
        rfl)
    (by sl_unfold_run_names; rw [View.read_writes_full]; try rw [View.readCov_full]
        rfl)
  clear hL7 hL9 hL11 hL13 hL15
  isplitl [HL0]
  · iexists _; isplitr [HL0]
    · ipureintro; rfl
    iexact HL0
  isplitl [HL1]
  · iexists _; isplitr [HL1]
    · ipureintro; rfl
    iexact HL1
  isplitl [HL2]
  · iexists _; isplitr [HL2]
    · ipureintro; rfl
    iexact HL2
  isplitl [HL3]
  · iexists _; isplitr [HL3]
    · ipureintro; rfl
    iexact HL3
  isplitl [HL4]
  · iexists _; isplitr [HL4]
    · ipureintro; rfl
    iexact HL4
  isplitl [HL5]
  · iexists _; isplitr [HL5]
    · ipureintro; rfl
    iexact HL5
  isplitl [HL6]
  · iexists _; isplitr [HL6]; rotate_left; · iexact HL6
    · ipureintro
      exact e8
  isplitl [H7]
  · iexists _; isplitr [H7]; rotate_left; · iexact H7
    · ipureintro
      sl_unfold_run_names
      rw [← dkTile_eq _ (arg9.view.read (Elt F) f7), View.readAt_full arg11.view, View.readAt_full arg12.view, e11, e12]
      simp only [read_put, View.writes_nil]
      rfl
  isplitl [H8]
  · iexists _; isplitr [H8]; rotate_left; · iexact H8
    · ipureintro
      sl_unfold_run_names
      rw [← dvTile_eq _ (arg10.view.read (Elt F) f8), View.readAt_full arg13.view, View.readAt_full arg14.view, e13, e14]
      simp only [read_put, View.writes_nil]
      rfl
  isplitl [HL8]
  · iexists _; iexists fL1; isplitr [HL8]
    · ipureintro; rfl
    iexact HL8
  isplitl [HL10]
  · iexists _; iexists fL2; isplitr [HL10]
    · ipureintro; rfl
    iexact HL10
  isplitl [HL12]
  · iexists _; iexists fL3; isplitr [HL12]
    · ipureintro; rfl
    iexact HL12
  iexists _; iexists fL4; isplitr [HL14]
  · ipureintro; rfl
  iexact HL14

end Cert.KernelIdeal.AttnBwd

end
-- ==== Proof.RunMid.lean ====
/- The call's body at a point between: dq goes on from what the point before left. -/
module

public import proofs.«01_k».proof.Proof.Setup
public import proofs.«01_k».proof.Proof.Start
public import Idealize.ShloMosaic.Lib.LoopRemainder

@[expose] public section

set_option maxRecDepth 16384

noncomputable section

namespace Cert.KernelIdeal.AttnBwd

open Idealize.ShloMosaic Idealize.ShloMosaic.TcCoe Idealize.ShloMosaic.Tactic Cert.KernelIdeal.Gen
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point between: dq goes on from what the point before left. -/
theorem runMid (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬isFirst i) (hc1 : ¬isLast i)
    (x0 : Vec F S8192x256 .bf16) (x1 : Vec F S512x256 .bf16) (x2 : Vec F S512x256 .bf16) (x3 : Vec F S8192x256 .bf16) (x4 : Vec F S1x16x8192 .f32) (x5 : Vec F S1x16x8192 .f32) (x6 : Vec F S8192x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (sweep i ⟨x0, x1, x2, x3, x4, x5⟩ x6).dq
          ∗ owns (c : Thread nD τ) arg9 fullShare (dkTile (sweep i ⟨x0, x1, x2, x3, x4, x5⟩ x6) someTile)
          ∗ owns (c : Thread nD τ) arg10 fullShare (dvTile (sweep i ⟨x0, x1, x2, x3, x4, x5⟩ x6) someTile) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  sl_exec (disch := first | sl_exact hc0 | sl_exact hc1)
  sl_step
  iapply Hk
  subst hf0 hf1 hf2 hf3 hf4 hf5 hf6
  obtain ⟨e8, e11, e12, e13, e14⟩ := from_start i arg2 arg3 arg4 arg5 arg6 arg7 arg8 arg11 arg12 arg13 arg14 _ _ _ _ _ _ _ _ _ _ _ _ _ _ _ _ _
    (diag i (insOf arg2 arg3 arg4 arg5 arg6 arg7 f0 f1 f2 f3 f4 f5) (arg8.view.read (Elt F) f6)) hL7 hL9 hL11 hL13 hL15
    (by sl_unfold_run_names; simp only [readAt_window, read_put, View.writes_nil]
        rfl)
    (by sl_unfold_run_names; rw [View.read_writes_full]; try rw [View.readCov_full]
        rfl)
    (by sl_unfold_run_names; rw [View.read_writes_full]; try rw [View.readCov_full]
        rfl)
    (by sl_unfold_run_names; rw [View.read_writes_full]; try rw [View.readCov_full]
        rfl)
    (by sl_unfold_run_names; rw [View.read_writes_full]; try rw [View.readCov_full]
        rfl)
  clear hL7 hL9 hL11 hL13 hL15
  isplitl [HL0]
  · iexists _; isplitr [HL0]
    · ipureintro; rfl
    iexact HL0
  isplitl [HL1]
  · iexists _; isplitr [HL1]
    · ipureintro; rfl
    iexact HL1
  isplitl [HL2]
  · iexists _; isplitr [HL2]
    · ipureintro; rfl
    iexact HL2
  isplitl [HL3]
  · iexists _; isplitr [HL3]
    · ipureintro; rfl
    iexact HL3
  isplitl [HL4]
  · iexists _; isplitr [HL4]
    · ipureintro; rfl
    iexact HL4
  isplitl [HL5]
  · iexists _; isplitr [HL5]
    · ipureintro; rfl
    iexact HL5
  isplitl [HL6]
  · iexists _; isplitr [HL6]; rotate_left; · iexact HL6
    · ipureintro
      exact e8
  isplitl [H7]
  · iexists _; isplitr [H7]; rotate_left; · iexact H7
    · ipureintro
      sl_unfold_run_names
      rw [← dkTile_eq _ (arg9.view.read (Elt F) f7), View.readAt_full arg11.view, View.readAt_full arg12.view, e11, e12]
      simp only [read_put, View.writes_nil]
      rfl
  isplitl [H8]
  · iexists _; isplitr [H8]; rotate_left; · iexact H8
    · ipureintro
      sl_unfold_run_names
      rw [← dvTile_eq _ (arg10.view.read (Elt F) f8), View.readAt_full arg13.view, View.readAt_full arg14.view, e13, e14]
      simp only [read_put, View.writes_nil]
      rfl
  isplitl [HL8]
  · iexists _; iexists fL1; isplitr [HL8]
    · ipureintro; rfl
    iexact HL8
  isplitl [HL10]
  · iexists _; iexists fL2; isplitr [HL10]
    · ipureintro; rfl
    iexact HL10
  isplitl [HL12]
  · iexists _; iexists fL3; isplitr [HL12]
    · ipureintro; rfl
    iexact HL12
  iexists _; iexists fL4; isplitr [HL14]
  · ipureintro; rfl
  iexact HL14

end Cert.KernelIdeal.AttnBwd

end
-- ==== Proof.RunLast.lean ====
/- The call's body at a pair's last point: dq goes on and is scaled at the end. -/
module

public import proofs.«01_k».proof.Proof.Setup
public import proofs.«01_k».proof.Proof.Start
public import Idealize.ShloMosaic.Lib.LoopRemainder

@[expose] public section

set_option maxRecDepth 16384

noncomputable section

namespace Cert.KernelIdeal.AttnBwd

open Idealize.ShloMosaic Idealize.ShloMosaic.TcCoe Idealize.ShloMosaic.Tactic Cert.KernelIdeal.Gen
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a pair's last point: dq goes on and is scaled at the end. -/
theorem runLast (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (hc0 : ¬isFirst i) (hc1 : isLast i)
    (x0 : Vec F S8192x256 .bf16) (x1 : Vec F S512x256 .bf16) (x2 : Vec F S512x256 .bf16) (x3 : Vec F S8192x256 .bf16) (x4 : Vec F S1x16x8192 .f32) (x5 : Vec F S1x16x8192 .f32) (x6 : Vec F S8192x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (sweep i ⟨x0, x1, x2, x3, x4, x5⟩ x6).dq)
          ∗ owns (c : Thread nD τ) arg9 fullShare (dkTile (sweep i ⟨x0, x1, x2, x3, x4, x5⟩ x6) someTile)
          ∗ owns (c : Thread nD τ) arg10 fullShare (dvTile (sweep i ⟨x0, x1, x2, x3, x4, x5⟩ x6) someTile) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  sl_exec (disch := first | sl_exact hc0 | sl_exact hc1)
  sl_step
  iapply Hk
  subst hf0 hf1 hf2 hf3 hf4 hf5 hf6
  obtain ⟨e8, e11, e12, e13, e14⟩ := from_start i arg2 arg3 arg4 arg5 arg6 arg7 arg8 arg11 arg12 arg13 arg14 _ _ _ _ _ _ _ _ _ _ _ _ _ _ _ _ _
    (diag i (insOf arg2 arg3 arg4 arg5 arg6 arg7 f0 f1 f2 f3 f4 f5) (arg8.view.read (Elt F) f6)) hL7 hL9 hL11 hL13 hL15
    (by sl_unfold_run_names; simp only [readAt_window, read_put, View.writes_nil]
        rfl)
    (by sl_unfold_run_names; rw [View.read_writes_full]; try rw [View.readCov_full]
        rfl)
    (by sl_unfold_run_names; rw [View.read_writes_full]; try rw [View.readCov_full]
        rfl)
    (by sl_unfold_run_names; rw [View.read_writes_full]; try rw [View.readCov_full]
        rfl)
    (by sl_unfold_run_names; rw [View.read_writes_full]; try rw [View.readCov_full]
        rfl)
  clear hL7 hL9 hL11 hL13 hL15
  isplitl [HL0]
  · iexists _; isplitr [HL0]
    · ipureintro; rfl
    iexact HL0
  isplitl [HL1]
  · iexists _; isplitr [HL1]
    · ipureintro; rfl
    iexact HL1
  isplitl [HL2]
  · iexists _; isplitr [HL2]
    · ipureintro; rfl
    iexact HL2
  isplitl [HL3]
  · iexists _; isplitr [HL3]
    · ipureintro; rfl
    iexact HL3
  isplitl [HL4]
  · iexists _; isplitr [HL4]
    · ipureintro; rfl
    iexact HL4
  isplitl [HL5]
  · iexists _; isplitr [HL5]
    · ipureintro; rfl
    iexact HL5
  isplitl [HL6]
  · iexists _; isplitr [HL6]; rotate_left; · iexact HL6
    · ipureintro
      rw [View.read_writes_full, View.readAt_full arg8.view, e8]; rfl
  isplitl [H7]
  · iexists _; isplitr [H7]; rotate_left; · iexact H7
    · ipureintro
      sl_unfold_run_names
      rw [← dkTile_eq _ (arg9.view.read (Elt F) f7), View.readAt_full arg11.view, View.readAt_full arg12.view, e11, e12]
      simp only [read_put, View.writes_nil]
      rfl
  isplitl [H8]
  · iexists _; isplitr [H8]; rotate_left; · iexact H8
    · ipureintro
      sl_unfold_run_names
      rw [← dvTile_eq _ (arg10.view.read (Elt F) f8), View.readAt_full arg13.view, View.readAt_full arg14.view, e13, e14]
      simp only [read_put, View.writes_nil]
      rfl
  isplitl [HL8]
  · iexists _; iexists fL1; isplitr [HL8]
    · ipureintro; rfl
    iexact HL8
  isplitl [HL10]
  · iexists _; iexists fL2; isplitr [HL10]
    · ipureintro; rfl
    iexact HL10
  isplitl [HL12]
  · iexists _; iexists fL3; isplitr [HL12]
    · ipureintro; rfl
    iexact HL12
  iexists _; iexists fL4; isplitr [HL14]
  · ipureintro; rfl
  iexact HL14

end Cert.KernelIdeal.AttnBwd

end
-- ==== Proof.FrameI.lean ====
/- The launch of the idealized program: what every block holds after every grid point, and the run of the whole call. -/
module

public import proofs.«01_k».proof.Proof.RunFirst
public import proofs.«01_k».proof.Proof.RunMid
public import proofs.«01_k».proof.Proof.RunLast
public import proofs.«01_k».proof.Proof.Gen.KernelIdeal.Frame
public import Idealize.ShloMosaic.Lib.Claim

@[expose] public section

set_option maxRecDepth 16384

noncomputable section

namespace Cert.KernelIdeal.AttnBwd

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The six blocks the call reads at point `t`. -/
abbrev insAt (c : Dev nD) (t : Fin cfg0.N) : Ins F :=
  ⟨iblk m c 0 t, iblk m c 1 t, iblk m c 2 t, iblk m c 3 t, iblk m c 4 t, iblk m c 5 t⟩

/-- The dq held when point `n` starts its sweep: zeros at a pair's first point, else what the point before left. -/
def dqIn (c : Dev nD) : ℕ → Vec F S8192x256 .f32
  | 0 => k0_pay35
  | n + 1 => if (n + 1) % 16 = 0 then k0_pay35
      else if h : n < cfg0.N then (sweep (grid0.coords ⟨n, h⟩) (insAt m c ⟨n, h⟩) (dqIn c n)).dq else k0_pay35

/-- The state at the end of point `t`'s sweep. -/
def stateAt (c : Dev nD) (t : Fin cfg0.N) : St F := sweep (grid0.coords t) (insAt m c t) (dqIn m c t.val)

theorem dqIn_first (c : Dev nD) (t : Fin cfg0.N) (h : t.val % 16 = 0) : dqIn m c t.val = k0_pay35 := by
  obtain ⟨n, hn⟩ := t
  cases n with
  | zero => rfl
  | succ n => exact if_pos h

theorem dqIn_next (c : Dev nD) (t : Fin cfg0.N) (h : ¬ t.val % 16 = 0) :
    dqIn m c t.val = (stateAt m c ⟨t.val - 1, Nat.lt_of_le_of_lt (Nat.sub_le _ _) t.isLt⟩).dq := by
  obtain ⟨n, hn⟩ := t
  cases n with
  | zero => exact absurd rfl h
  | succ n =>
    have hn' : n < cfg0.N := Nat.lt_of_succ_lt hn
    exact (if_neg h).trans (dif_pos hn')

/-- What point `t` leaves in dq's block: the sweep's dq, scaled at a pair's last point. -/
def dqOut (c : Dev nD) (t : Fin cfg0.N) : Vec F S8192x256 .f32 :=
  if t.val % 16 = 15 then k0_pay2 (stateAt m c t).dq else (stateAt m c t).dq

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut m c t
    | ⟨7, _⟩ => dkTile (stateAt m c t) someTile
    | ⟨8, _⟩ => dvTile (stateAt m c t) someTile
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqOut m c t := by dsimp only [dats]
theorem after_7 (c : Dev nD) (t : Fin cfg0.N) : (dats m 0 c).after 7 t = dkTile (stateAt m c t) someTile := by dsimp only [dats]
theorem after_8 (c : Dev nD) (t : Fin cfg0.N) : (dats m 0 c).after 8 t = dvTile (stateAt m c t) someTile := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- After a pair's first point dq's buffer holds what the point before left. -/
theorem before_6 (c : Dev nD) (t : Fin cfg0.N) (h : ¬ t.val % 16 = 0) (d) : (dats m 0 c).before 6 t d = dqIn m c t.val := by
  have h0 : t.val ≠ 0 := fun e => h (by rw [e])
  have hfl : (cfg0.win 6).flush ⟨t.val - 1, Nat.lt_of_le_of_lt (Nat.sub_le _ _) t.isLt⟩ = false := by
    rw [Bool.eq_false_iff]; intro e
    have e' : (t.val - 1) % 16 = 15 := (flush0_6 ⟨t.val - 1, Nat.lt_of_le_of_lt (Nat.sub_le _ _) t.isLt⟩).mp e
    omega
  rw [(dats m 0 c).before_out_kept 6 rfl t h0 hfl (fun _ => rfl) (fun _ _ => rfl) d, after_6, dqIn_next m c t h]
  unfold dqOut
  rw [if_neg (by show ¬ (t.val - 1) % 16 = 15; omega)]

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st_0 t) fullShare ((dats m 0 c).before 0 t d)) ∗ (∃ d, owns (c : Thread nD τ) (st_1 t) fullShare ((dats m 0 c).before 1 t d)) ∗ (∃ d, owns (c : Thread nD τ) (st_2 t) fullShare ((dats m 0 c).before 2 t d)) ∗ (∃ d, owns (c : Thread nD τ) (st_3 t) fullShare ((dats m 0 c).before 3 t d)) ∗ (∃ d, owns (c : Thread nD τ) (st_4 t) fullShare ((dats m 0 c).before 4 t d)) ∗ (∃ d, owns (c : Thread nD τ) (st_5 t) fullShare ((dats m 0 c).before 5 t d)) ∗ (∃ d, owns (c : Thread nD τ) (st_6 t) fullShare ((dats m 0 c).before 6 t d)) ∗ (∃ d, owns (c : Thread nD τ) (st_7 t) fullShare ((dats m 0 c).before 7 t d)) ∗ (∃ d, owns (c : Thread nD τ) (st_8 t) fullShare ((dats m 0 c).before 8 t d)))

/-- and what it returns. -/
def bodyPost (c : Dev nD) (t : Fin cfg0.N) : sProp 𝕄 :=
  iprop((dats m 0 c).Φ t.succ ∗ (dats m 0 c).owesAt () t.succ ∗ owns (c : Thread nD τ) (st_0 t) fullShare ((dats m 0 c).after 0 t) ∗ owns (c : Thread nD τ) (st_1 t) fullShare ((dats m 0 c).after 1 t) ∗ owns (c : Thread nD τ) (st_2 t) fullShare ((dats m 0 c).after 2 t) ∗ owns (c : Thread nD τ) (st_3 t) fullShare ((dats m 0 c).after 3 t) ∗ owns (c : Thread nD τ) (st_4 t) fullShare ((dats m 0 c).after 4 t) ∗ owns (c : Thread nD τ) (st_5 t) fullShare ((dats m 0 c).after 5 t) ∗ owns (c : Thread nD τ) (st_6 t) fullShare ((dats m 0 c).after 6 t) ∗ owns (c : Thread nD τ) (st_7 t) fullShare ((dats m 0 c).after 7 t) ∗ owns (c : Thread nD τ) (st_8 t) fullShare ((dats m 0 c).after 8 t))

set_option maxHeartbeats 3600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, keeps_eq]
  have hN : t.val < 64 := lt_of_lt_of_eq t.isLt (show cfg0.N = 64 from N_0)
  unfold dqOut stateAt
  by_cases h0 : t.val % 16 = 0
  · have h1 : ¬ t.val % 16 = 15 := by omega
    rw [if_neg h1, dqIn_first m c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before_6 m c t h0]
    by_cases h1 : t.val % 16 = 15
    · rw [if_pos h1]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid0.coords t) _ _ _ _ _ _ _ _ _ _ _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) (iblk m c 5 t) (dqIn m c t.val)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [if_neg h1]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid0.coords t) _ _ _ _ _ _ _ _ _ _ _ _ _ _ _ _ _ _ _ _ _ _ _ _ _ _ (fun h => h0 ((isFirst_iff t).mp h)) (fun h => h1 ((isLast_iff t).mp h)) (iblk m c 0 t) (iblk m c 1 t) (iblk m c 2 t) (iblk m c 3 t) (iblk m c 4 t) (iblk m c 5 t) (dqIn m c t.val)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every final state has the arrays the data say, and every counter at zero. -/
theorem run_main_quiescent : θ_run defs (onTc (τ := τ) (main (F := F))) (s₀ m ρ)
    (fun r => (Pipeline.FramePost cfgs (dats m) (0 : Fin 1) (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) (0 : Fin 1) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The call runs to its end, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.AttnBwd

end
-- ==== Proof.Frames.lean ====
/- The frames of the three programs and the names of the kernel's constants. -/
module

public import proofs.«01_k».proof.Defs
public import proofs.«01_k».proof.Proof.Bits.Frame
public import proofs.«01_k».proof.Proof.Gen.ReferenceIdeal.Run
public import proofs.«01_k».proof.Proof.Gen.Pre_finite
public import proofs.«01_k».proof.Proof.FrameI
public import Idealize.ShloMosaic.Lib.Quiescent

@[expose] public section

noncomputable section

namespace Cert.Proof.Frames

open Idealize.ShloMosaic Idealize.ShloMosaic.TcCoe Idealize.SL.Sem

theorem kernel : Cert.quiescent_Kernel := fun m ρ _ => Cert.Kernel.Whole.frame m ρ

theorem kernel_ideal : Cert.quiescent_KernelIdeal := fun m ρ _ => Cert.KernelIdeal.AttnBwd.frame m ρ

theorem reference_ideal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem reference_ideal_finite : Cert.quiescent_ReferenceIdeal_pre_finite := fun m ρ _ =>
  reference_ideal m ρ trivial

theorem preserves : Cert.preserves_Kernel_KernelIdeal :=
  ⟨IdealRules.named_const.statement Cert.KernelIdeal.κ "mask" .f32 0xF149F2CA#32 ⊥ rfl,
    IdealRules.named_const.statement Cert.KernelIdeal.κ "scale2" .f32 0x3E16C740#32
      (((Real.sqrt 96)⁻¹ * (Real.log 2)⁻¹ : ℝ) : EReal) rfl,
    IdealRules.named_const.statement Cert.KernelIdeal.κ "scale" .f32 0x3DD105EC#32
      (((Real.sqrt 96)⁻¹ : ℝ) : EReal) rfl⟩

end Cert.Proof.Frames

end
-- ==== Proof.Consts.lean ====
/- The numbers the programs spell, as the extended reals they stand for, and the facts about extended reals used to
   pass to real numbers. -/
module

public import Idealize.ShloMosaic.PureOps.Ideal
public import Idealize.ShloMosaic.PureOps.IdealRules
public import proofs.«01_k».proof.KernelIdeal

@[expose] public section

noncomputable section

namespace Cert.Consts

open Idealize.ShloMosaic

theorem ofBits_zero : Ideal.ofBits .f32 0x00000000#32 = ((0 : ℝ) : EReal) := by
  simp [Ideal.ofBits, Ideal.ieee, -EReal.coe_mul]

theorem ofBits_96 : Ideal.ofBits .f32 0x42C00000#32 = ((96 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_bot : Ideal.ofBits .f32 0xFF800000#32 = ⊥ := by
  simp [Ideal.ofBits, Ideal.ieee, -EReal.coe_mul]

theorem ofBits_top : Ideal.ofBits .f32 0x7F800000#32 = ⊤ := by
  simp [Ideal.ofBits, Ideal.ieee, -EReal.coe_mul]

/-- The scale of the scores, one over the root of 96. -/
def sc : ℝ := (Real.sqrt 96)⁻¹

/-- The scale of the scores in base two. -/
def sc2 : ℝ := (Real.sqrt 96)⁻¹ * (Real.log 2)⁻¹

theorem sqrt96_pos : (0 : ℝ) < Real.sqrt 96 := Real.sqrt_pos.mpr (by norm_num)

theorem log2_pos : (0 : ℝ) < Real.log 2 := Real.log_pos (by norm_num)

theorem sc2_pos : 0 < sc2 := mul_pos (inv_pos.mpr sqrt96_pos) (inv_pos.mpr log2_pos)

theorem named_scale :
    Named.named (F := Ideal) (φ := .f32) Cert.KernelIdeal.κ "scale" (0x3DD105EC#32) = ((sc : ℝ) : EReal) :=
  IdealRules.named_const.ideal_named_scalar _ _ _ _ rfl

theorem named_scale2 :
    Named.named (F := Ideal) (φ := .f32) Cert.KernelIdeal.κ "scale2" (0x3E16C740#32) = ((sc2 : ℝ) : EReal) :=
  IdealRules.named_const.ideal_named_scalar _ _ _ _ rfl

theorem named_mask : Named.named (F := Ideal) (φ := .f32) Cert.KernelIdeal.κ "mask" (0xF149F2CA#32) = (⊥ : EReal) :=
  IdealRules.named_const.ideal_named_scalar _ _ _ _ rfl

/-- A sum of reals taken among extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals over the first `n` places. -/
theorem coe_dot (n : ℕ) (x y : Fin n → EReal) (f g : ℕ → ℝ) (hx : ∀ c, x c = ((f c : ℝ) : EReal))
    (hy : ∀ c, y c = ((g c : ℝ) : EReal)) :
    ∑ c, x c * y c = ((∑ c ∈ Finset.range n, f c * g c : ℝ) : EReal) := by
  rw [Finset.sum_range, ← coe_sum]
  exact Finset.sum_congr rfl fun c _ => by rw [hx, hy, EReal.coe_mul]

end Cert.Consts

end
-- ==== Proof.Cells.lean ====
/- One entry of each block the call computes, over the extended reals, when what it reads are real numbers. -/
module

public import proofs.«01_k».proof.Proof.Tile
public import proofs.«01_k».proof.Proof.Consts
public import Idealize.ShloMosaic.Lib.Pipeline.ValueKit
public import Idealize.ShloMosaic.PureOps.IdealRules
public import Idealize.ShloMosaic.Lib.WordCmp

@[expose] public section

set_option maxRecDepth 16384

noncomputable section

namespace Cert.KernelIdeal.AttnBwd

open Idealize.ShloMosaic Idealize.ShloMosaic.TcCoe Cert.KernelIdeal Cert.KernelIdeal.Gen
open Cert.Consts

/-- One head's arrays as real numbers: queries, keys, values and output gradients by row and lane, log-sums (base two)
    and deltas by row. -/
structure Head where
  q : ℕ → ℕ → ℝ
  k : ℕ → ℕ → ℝ
  v : ℕ → ℕ → ℝ
  o : ℕ → ℕ → ℝ
  l : ℕ → ℝ
  d : ℕ → ℝ

/-- The weight key `a` has for query `b`, the mask aside. -/
def Head.w (H : Head) (a b : ℕ) : ℝ := Real.rpow 2 ((∑ c ∈ Finset.range 128, H.k a c * H.q b c) * sc2 - H.l b)

/-- The weight key `a` has for query `b`: nothing for a key after the query. -/
def Head.p (H : Head) (a b : ℕ) : ℝ := if a ≤ b then H.w a b else 0

/-- The gradient of the score of key `a` and query `b`, before the scale. -/
def Head.s (H : Head) (a b : ℕ) : ℝ := H.p a b * ((∑ c ∈ Finset.range 128, H.v a c * H.o b c) - H.d b)

/-- A block of 128 lanes holding rows from `A` on of `f`. -/
def Rows (x : S512x128.Idx → EReal) (f : ℕ → ℕ → ℝ) (A : ℕ) : Prop :=
  ∀ (r : Fin 512) (c : Fin 128), x (ix2 r c) = ((f (A + r) c : ℝ) : EReal)

/-- A row of statistics holding `f` from `B` on. -/
def Stat (x : S1x1x512.Idx → EReal) (f : ℕ → ℝ) (B : ℕ) : Prop :=
  ∀ r : Fin 512, x (ix3 0 0 r) = ((f (B + r) : ℝ) : EReal)

/-- A square block holding keys from `A` on against queries from `B` on of `f`. -/
def Sq (x : S512x512.Idx → EReal) (f : ℕ → ℕ → ℝ) (A B : ℕ) : Prop :=
  ∀ (a b : Fin 512), x (ix2 a b) = ((f (A + a) (B + b) : ℝ) : EReal)

variable {H : Head} {A B : ℕ} {Q K V O : Vec Ideal S512x128 .bf16} {L D : Vec Ideal S1x1x512 .f32}

theorem w_cell {e : EReal} {a b : ℕ} {s : EReal} (hs : s = ((∑ c ∈ Finset.range 128, H.k a c * H.q b c : ℝ) : EReal))
    (he : e = ((H.l b : ℝ) : EReal)) :
    (FloatOps.exp2 (F := Ideal) (φ := .f32) (s * Named.named κ "scale2" 1041680192#32 - e) : EReal) = ((H.w a b : ℝ) : EReal) := by
  rw [hs, he, named_scale2, ← EReal.coe_mul, ← EReal.coe_sub]
  rfl

theorem w_below (hQ : Rows Q H.q B) (hK : Rows K H.k A) (hL : Stat L H.l B) (hAB : A + 512 ≤ B) :
    Sq (k0_pay6 Q K L) H.p A B := by
  intro a b
  pointwise [k0_pay6, k0_pay5, k0_pay3]
  rw [w_cell (coe_dot 128 _ _ _ _ (hK a) (hQ b)) (hL b), Head.p, if_pos (by have := a.isLt; omega)]

theorem w_below' (hQ : Rows Q H.q B) (hK : Rows K H.k A) (hL : Stat L H.l B) (hAB : A + 512 ≤ B) :
    Sq (k0_pay15 Q K L) H.p A B := by
  intro a b
  pointwise [k0_pay15, k0_pay11, k0_pay13]
  rw [w_cell (coe_dot 128 _ _ _ _ (hK a) (hQ b)) (hL b), Head.p, if_pos (by have := a.isLt; omega)]

theorem mask_cell (a b : Fin 512) (s e : EReal)
    (hs : s = ((∑ c ∈ Finset.range 128, H.k (A + a) c * H.q (A + b) c : ℝ) : EReal)) (he : e = ((H.l (A + b) : ℝ) : EReal)) :
    (FloatOps.exp2 (F := Ideal) (φ := .f32) (Scalar.select (IntOp.cmpi CmpIPredicate.sle (BitVec.ofNat 32 a.val) (BitVec.ofNat 32 b.val)) s
      (Named.named (F := Ideal) (φ := .f32) κ "mask" 4048155338#32) * Named.named κ "scale2" 1041680192#32 - e) : EReal) = ((H.p (A + a) (A + b) : ℝ) : EReal) := by
  by_cases h : a.val ≤ b.val
  · have e1 : IntOp.cmpi CmpIPredicate.sle (BitVec.ofNat 32 a.val) (BitVec.ofNat 32 b.val) = 1#1 := by
      word_cmp
    rw [e1]
    rw [show Scalar.select 1#1 s (Named.named (F := Ideal) (φ := .f32) κ "mask" 4048155338#32) = s from rfl, w_cell hs he, Head.p, if_pos (by omega)]
  · have e1 : IntOp.cmpi CmpIPredicate.sle (BitVec.ofNat 32 a.val) (BitVec.ofNat 32 b.val) = 0#1 := by
      word_cmp
    rw [e1]
    rw [show Scalar.select 0#1 s (Named.named (F := Ideal) (φ := .f32) κ "mask" 4048155338#32) = Named.named (F := Ideal) (φ := .f32) κ "mask" 4048155338#32 from rfl,
      named_mask, named_scale2, he, EReal.bot_mul_coe_of_pos sc2_pos, EReal.bot_sub, Head.p, if_neg (by omega)]
    rfl

theorem sc_diag (hQ : Rows Q H.q A) (hK : Rows K H.k A) (a b : Fin 512) :
    k0_pay39 Q K (ix2 a b) = ((∑ c ∈ Finset.range 128, H.k (A + a) c * H.q (A + b) c : ℝ) : EReal) := by
  pointwise [k0_pay39, k0_pay36, k0_pay38]
  exact coe_dot 128 _ _ _ _ (hK a) (hQ b)

theorem w_diag (hQ : Rows Q H.q A) (hK : Rows K H.k A) (hL : Stat L H.l A) :
    Sq (k0_pay41 (k0_pay39 Q K) k0_pay40 L) H.p A A := by
  intro a b
  pointwise [k0_pay41, k0_pay40]
  exact mask_cell a b _ _ (sc_diag hQ hK a b) (hL b)

theorem w_diag' (hQ : Rows Q H.q A) (hK : Rows K H.k A) (hL : Stat L H.l A) :
    Sq (k0_pay51 (iota .tc S512x512 32 [0] iota_S512x512_d0_w32) (iota .tc S512x512 32 [1] iota_S512x512_d1_w32) Q K L) H.p A A := by
  intro a b
  pointwise [k0_pay51, k0_pay48, k0_pay50]
  exact mask_cell a b _ _ (coe_dot 128 _ _ _ _ (hK a) (hQ b)) (hL b)

theorem s_cell {a b : ℕ} {p x d : EReal} (hp : p = ((H.p a b : ℝ) : EReal))
    (hx : x = ((∑ c ∈ Finset.range 128, H.v a c * H.o b c : ℝ) : EReal)) (hd : d = ((H.d b : ℝ) : EReal)) :
    p * (x - d) = ((H.s a b : ℝ) : EReal) := by
  rw [hp, hx, hd, ← EReal.coe_sub, ← EReal.coe_mul]
  rfl

theorem s_below (hQ : Rows Q H.q B) (hO : Rows O H.o B) (hK : Rows K H.k A) (hV : Rows V H.v A) (hL : Stat L H.l B)
    (hD : Stat D H.d B) (hAB : A + 512 ≤ B) : Sq (k0_pay8 Q O K L D V) H.s A B := by
  intro a b
  pointwise [k0_pay8, k0_pay4]
  exact s_cell (w_below hQ hK hL hAB a b) (coe_dot 128 _ _ _ _ (hV a) (hO b)) (hD b)

theorem s_below' (hQ : Rows Q H.q B) (hO : Rows O H.o B) (hK : Rows K H.k A) (hV : Rows V H.v A) (hL : Stat L H.l B)
    (hD : Stat D H.d B) (hAB : A + 512 ≤ B) : Sq (k0_pay58 (k0_pay12 O) (k0_pay14 D) (k0_pay15 Q K L) V) H.s A B := by
  intro a b
  pointwise [k0_pay58, k0_pay12, k0_pay14]
  exact s_cell (w_below' hQ hK hL hAB a b) (coe_dot 128 _ _ _ _ (hV a) (hO b)) (hD b)

theorem s_diag (hQ : Rows Q H.q A) (hO : Rows O H.o A) (hK : Rows K H.k A) (hV : Rows V H.v A) (hL : Stat L H.l A)
    (hD : Stat D H.d A) : Sq (k0_pay43 (k0_pay37 O) (k0_pay39 Q K) k0_pay40 L D V) H.s A A := by
  intro a b
  pointwise [k0_pay43, k0_pay37]
  exact s_cell (w_diag hQ hK hL a b) (coe_dot 128 _ _ _ _ (hV a) (hO b)) (hD b)

theorem s_diag' (hQ : Rows Q H.q A) (hO : Rows O H.o A) (hK : Rows K H.k A) (hV : Rows V H.v A) (hL : Stat L H.l A)
    (hD : Stat D H.d A) : Sq (k0_pay54 (k0_pay51 (iota .tc S512x512 32 [0] iota_S512x512_d0_w32)
      (iota .tc S512x512 32 [1] iota_S512x512_d1_w32) Q K L) (k0_pay53 O D V)) H.s A A := by
  intro a b
  pointwise [k0_pay54, k0_pay53, k0_pay49]
  exact s_cell (w_diag' hQ hK hL a b) (coe_dot 128 _ _ _ _ (hV a) (hO b)) (hD b)

/-! ## The accumulators -/

/-- `f` with a query block's part of the sum over queries of `g · h` added. -/
def addQ (f : ℕ → ℕ → ℝ) (g h : ℕ → ℕ → ℝ) (B : ℕ) (a c : ℕ) : ℝ :=
  f a c + ∑ b ∈ Finset.range 512, g a (B + b) * h (B + b) c

/-- `f` with a tile's part of the sum over keys of `g · h` added. -/
def addK (f : ℕ → ℕ → ℝ) (g h : ℕ → ℕ → ℝ) (A : ℕ) (b c : ℕ) : ℝ :=
  f b c + ∑ a ∈ Finset.range 512, g (A + a) b * h (A + a) c

variable {f g : ℕ → ℕ → ℝ} {x : Vec Ideal S512x128 .f32}

theorem acc_cell {y s : EReal} {u v : ℝ} (hy : y = (u : EReal)) (hs : s = (v : EReal)) : y + s = ((u + v : ℝ) : EReal) := by
  rw [hy, hs, EReal.coe_add]

theorem accQ_cell {S : S512x512.Idx → EReal} {X : S512x128.Idx → EReal} {h : ℕ → ℕ → ℝ} (hS : Sq S g A B) (hX : Rows X h B)
    (hx : Rows x f A) (a : Fin 512) (c : Fin 128) :
    x (ix2 a c) + ∑ b, S (ix2 a b) * X (ix2 b c) = ((addQ f g h B (A + a) c : ℝ) : EReal) :=
  acc_cell (hx a c) (coe_dot 512 _ _ (fun b => g (A + a) (B + b)) (fun b => h (B + b) c) (fun b => hS a b) (fun b => hX b c))

theorem accK_cell {S : S512x512.Idx → EReal} {X : S512x128.Idx → EReal} {h : ℕ → ℕ → ℝ} (hS : Sq S g A B) (hX : Rows X h A)
    (hx : Rows x f B) (b : Fin 512) (c : Fin 128) :
    x (ix2 b c) + ∑ a, S (ix2 a b) * X (ix2 a c) = ((addK f g h A (B + b) c : ℝ) : EReal) :=
  acc_cell (hx b c) (coe_dot 512 _ _ (fun a => g (A + a) (B + b)) (fun a => h (A + a) c) (fun a => hS a b) (fun a => hX a c))

theorem v_below (hQ : Rows Q H.q B) (hO : Rows O H.o B) (hK : Rows K H.k A) (hL : Stat L H.l B) (hAB : A + 512 ≤ B)
    (hx : Rows x f A) : Rows (k0_pay7 Q O K L x) (addQ f H.p H.o B) A := by
  intro a c
  pointwise [k0_pay7, k0_pay4]
  exact accQ_cell (w_below hQ hK hL hAB) hO hx a c

theorem v_below' (hQ : Rows Q H.q B) (hO : Rows O H.o B) (hK : Rows K H.k A) (hL : Stat L H.l B) (hAB : A + 512 ≤ B)
    (hx : Rows x f A) : Rows (k0_pay57 (k0_pay16 Q O K L x)) (addQ f H.p H.o B) A := by
  intro a c
  pointwise [k0_pay57, k0_pay16, k0_pay12]
  exact accQ_cell (w_below' hQ hK hL hAB) hO hx a c

theorem v_diag (hQ : Rows Q H.q A) (hO : Rows O H.o A) (hK : Rows K H.k A) (hL : Stat L H.l A)
    (hx : Rows x f A) : Rows (k0_pay42 (k0_pay37 O) (k0_pay39 Q K) k0_pay40 L x) (addQ f H.p H.o A) A := by
  intro a c
  pointwise [k0_pay42, k0_pay37]
  exact accQ_cell (w_diag hQ hK hL) hO hx a c

theorem v_diag' (hQ : Rows Q H.q A) (hO : Rows O H.o A) (hK : Rows K H.k A) (hL : Stat L H.l A)
    (hx : Rows x f A) : Rows (k0_pay52 (iota .tc S512x512 32 [0] iota_S512x512_d0_w32)
      (iota .tc S512x512 32 [1] iota_S512x512_d1_w32) Q O K L x) (addQ f H.p H.o A) A := by
  intro a c
  pointwise [k0_pay52, k0_pay49]
  exact accQ_cell (w_diag' hQ hK hL) hO hx a c

theorem k_below (hQ : Rows Q H.q B) (hO : Rows O H.o B) (hK : Rows K H.k A) (hV : Rows V H.v A) (hL : Stat L H.l B)
    (hD : Stat D H.d B) (hAB : A + 512 ≤ B) (hx : Rows x f A) :
    Rows (k0_pay9 (k0_pay3 Q) (k0_pay8 Q O K L D V) x) (addQ f H.s H.q B) A := by
  intro a c
  pointwise [k0_pay9, k0_pay3]
  exact accQ_cell (s_below hQ hO hK hV hL hD hAB) hQ hx a c

theorem k_below' (hQ : Rows Q H.q B) (hO : Rows O H.o B) (hK : Rows K H.k A) (hV : Rows V H.v A) (hL : Stat L H.l B)
    (hD : Stat D H.d B) (hAB : A + 512 ≤ B) (hx : Rows x f A) :
    Rows (k0_pay59 (k0_pay11 Q) (k0_pay12 O) (k0_pay14 D) (k0_pay15 Q K L) V x) (addQ f H.s H.q B) A := by
  intro a c
  pointwise [k0_pay59, k0_pay11]
  exact accQ_cell (s_below' hQ hO hK hV hL hD hAB) hQ hx a c

theorem k_diag (hQ : Rows Q H.q A) (hO : Rows O H.o A) (hK : Rows K H.k A) (hV : Rows V H.v A) (hL : Stat L H.l A)
    (hD : Stat D H.d A) (hx : Rows x f A) :
    Rows (k0_pay44 (k0_pay36 Q) (k0_pay37 O) (k0_pay39 Q K) k0_pay40 L D V x) (addQ f H.s H.q A) A := by
  intro a c
  pointwise [k0_pay44, k0_pay36]
  exact accQ_cell (s_diag hQ hO hK hV hL hD) hQ hx a c

theorem k_diag' (hQ : Rows Q H.q A) (hO : Rows O H.o A) (hK : Rows K H.k A) (hV : Rows V H.v A) (hL : Stat L H.l A)
    (hD : Stat D H.d A) (hx : Rows x f A) :
    Rows (k0_pay55 (k0_pay48 Q) (k0_pay51 (iota .tc S512x512 32 [0] iota_S512x512_d0_w32)
      (iota .tc S512x512 32 [1] iota_S512x512_d1_w32) Q K L) (k0_pay53 O D V) x) (addQ f H.s H.q A) A := by
  intro a c
  pointwise [k0_pay55, k0_pay48]
  exact accQ_cell (s_diag' hQ hO hK hV hL hD) hQ hx a c

theorem q_below (hQ : Rows Q H.q B) (hO : Rows O H.o B) (hK : Rows K H.k A) (hV : Rows V H.v A) (hL : Stat L H.l B)
    (hD : Stat D H.d B) (hAB : A + 512 ≤ B) (hx : Rows x f B) :
    Rows (k0_pay10 (k0_pay5 K) (k0_pay8 Q O K L D V) x) (addK f H.s H.k A) B := by
  intro a c
  pointwise [k0_pay10, k0_pay5]
  exact accK_cell (s_below hQ hO hK hV hL hD hAB) hK hx a c

theorem q_below' (hQ : Rows Q H.q B) (hO : Rows O H.o B) (hK : Rows K H.k A) (hV : Rows V H.v A) (hL : Stat L H.l B)
    (hD : Stat D H.d B) (hAB : A + 512 ≤ B) (hx : Rows x f B) :
    Rows (k0_pay60 (k0_pay12 O) (k0_pay13 K) (k0_pay14 D) (k0_pay15 Q K L) V x) (addK f H.s H.k A) B := by
  intro a c
  pointwise [k0_pay60, k0_pay13]
  exact accK_cell (s_below' hQ hO hK hV hL hD hAB) hK hx a c

theorem q_diag (hQ : Rows Q H.q A) (hO : Rows O H.o A) (hK : Rows K H.k A) (hV : Rows V H.v A) (hL : Stat L H.l A)
    (hD : Stat D H.d A) (hx : Rows x f A) :
    Rows (k0_pay47 (k0_pay45 x) (k0_pay46 (k0_pay37 O) (k0_pay38 K) (k0_pay39 Q K) k0_pay40 L D V)) (addK f H.s H.k A) A := by
  intro a c
  pointwise [k0_pay47, k0_pay45, k0_pay46, k0_pay38]
  exact accK_cell (s_diag hQ hO hK hV hL hD) hK hx a c

theorem q_diag' (hQ : Rows Q H.q A) (hO : Rows O H.o A) (hK : Rows K H.k A) (hV : Rows V H.v A) (hL : Stat L H.l A)
    (hD : Stat D H.d A) (hx : Rows x f A) :
    Rows (k0_pay56 (k0_pay50 K) (k0_pay51 (iota .tc S512x512 32 [0] iota_S512x512_d0_w32)
      (iota .tc S512x512 32 [1] iota_S512x512_d1_w32) Q K L) (k0_pay53 O D V) x) (addK f H.s H.k A) A := by
  intro a c
  pointwise [k0_pay56, k0_pay50]
  exact accK_cell (s_diag' hQ hO hK hV hL hD) hK hx a c

/-! ## Zeros and scales -/

theorem zero31 : Rows (k0_pay31 (F := Ideal)) (fun _ _ => 0) A := by
  intro a c
  pointwise [k0_pay31]
  exact EReal.coe_zero.symm

theorem zero32 : Rows (k0_pay32 (F := Ideal)) (fun _ _ => 0) A := by
  intro a c
  pointwise [k0_pay32]
  exact EReal.coe_zero.symm

theorem zero33 : Rows (k0_pay33 (F := Ideal)) (fun _ _ => 0) A := by
  intro a c
  pointwise [k0_pay33]
  exact EReal.coe_zero.symm

theorem zero34 : Rows (k0_pay34 (F := Ideal)) (fun _ _ => 0) A := by
  intro a c
  pointwise [k0_pay34]
  exact EReal.coe_zero.symm

theorem zero35 (r : Fin 8192) (c : Fin 256) : (k0_pay35 (F := Ideal)) (ix2 r c) = ((0 : ℝ) : EReal) := by
  pointwise [k0_pay35]
  exact EReal.coe_zero.symm

theorem scale65 (hx : Rows x f A) : Rows (k0_pay65 x) (fun a c => f a c * sc) A := by
  intro a c
  pointwise [k0_pay65]
  rw [hx a c, named_scale, ← EReal.coe_mul]

theorem scale1 (hx : Rows x f A) : Rows (k0_pay1 x (Named.named κ "scale" 0x3DD105EC#32)) (fun a c => f a c * sc) A := by
  intro a c
  pointwise [k0_pay1]
  rw [hx a c, named_scale, ← EReal.coe_mul]

theorem scale2 (y : Vec Ideal S8192x256 .f32) (r : Fin 8192) (c : Fin 256) :
    k0_pay2 y (ix2 r c) = y (ix2 r c) * ((sc : ℝ) : EReal) := by
  pointwise [k0_pay2]
  rw [named_scale]

end Cert.KernelIdeal.AttnBwd

end
-- ==== Proof.Sweep.lean ====
/- The sweep of one tile of keys over the query blocks, in real numbers: after it dv and dk hold the tile's sums over
   every query, and dq has the tile's keys added. -/
module

public import proofs.«01_k».proof.Proof.Cells

@[expose] public section

set_option maxRecDepth 16384

noncomputable section

namespace Cert.KernelIdeal.AttnBwd

open Idealize.ShloMosaic Idealize.ShloMosaic.TcCoe Cert.KernelIdeal Cert.KernelIdeal.Gen
open Idealize.ShloMosaic.VecWindow (window put)
open Cert.Consts

/-! ## Offsets and trips -/

theorem trips_eq (i : grid0.Coords) : (k0_t1_loop i).trips = 15 - (i 1).val :=
  (by decide +kernel : ∀ j : Fin 16, (⟨Scalar.addi (BitVec.ofNat 32 j.val) 1#32,
    Scalar.addi (Scalar.addi (BitVec.ofNat 32 j.val) 1#32) (Scalar.muli (Scalar.divsi (Scalar.subi 16#32
      (Scalar.addi (BitVec.ofNat 32 j.val) 1#32)) 1#32) 1#32), 1#32⟩ : Scf.Loop 32).trips = 15 - j.val) (i 1)

theorem word_diag : ∀ j : Fin 16, (Scalar.indexCast (Scalar.muli (BitVec.ofNat 32 j.val) 512#32)).toNat = 512 * j.val := by
  decide +kernel

theorem word_below : ∀ j n : Fin 16, (Scalar.indexCast (Scalar.muli (Scf.iv (Scalar.addi (BitVec.ofNat 32 j.val) 1#32) 1#32 n.val)
    512#32)).toNat = 512 * (j.val + 1 + n.val) := by
  decide +kernel

theorem off1_eq (i : grid0.Coords) : k0_off1 i = ![512 * (i 1).val, 0] := by
  have := word_diag (i 1)
  unfold k0_off1
  simp only [this]

theorem off3_eq (i : grid0.Coords) : k0_off3 i = ![512 * (i 1).val, 128] := by
  have := word_diag (i 1)
  unfold k0_off3
  simp only [this]

theorem off2_eq (i : grid0.Coords) : k0_off2 i = ![0, 0, 512 * (i 1).val] := by
  have := word_diag (i 1)
  unfold k0_off2
  simp only [this]

theorem off4_eq (i : grid0.Coords) : k0_off4 i = ![0, 8, 512 * (i 1).val] := by
  have := word_diag (i 1)
  unfold k0_off4
  simp only [this]

theorem below_eq (i : grid0.Coords) (n : Fin (k0_t1_loop i).trips) :
    (Scalar.indexCast (Scalar.muli (Scf.iv (Scalar.addi (BitVec.ofNat 32 (i 1).val) 1#32) 1#32 n.val) 512#32)).toNat
      = 512 * (i 1).val + 512 * (n.val + 1) := by
  have hn : n.val < 16 := by have := n.isLt; have := trips_eq i; omega
  have := word_below (i 1) ⟨n.val, hn⟩
  refine this.trans ?_
  show 512 * ((i 1).val + 1 + n.val) = _
  omega

theorem off5_eq (i : grid0.Coords) (n : Fin (k0_t1_loop i).trips) : k0_off5 i n = ![512 * (i 1).val + 512 * (n.val + 1), 0] := by
  have := below_eq i n
  unfold k0_off5
  simp only [this]

theorem off7_eq (i : grid0.Coords) (n : Fin (k0_t1_loop i).trips) : k0_off7 i n = ![512 * (i 1).val + 512 * (n.val + 1), 128] := by
  have := below_eq i n
  unfold k0_off7
  simp only [this]

theorem off6_eq (i : grid0.Coords) (n : Fin (k0_t1_loop i).trips) :
    k0_off6 i n = ![0, 0, 512 * (i 1).val + 512 * (n.val + 1)] := by
  have := below_eq i n
  unfold k0_off6
  simp only [this]

theorem off8_eq (i : grid0.Coords) (n : Fin (k0_t1_loop i).trips) :
    k0_off8 i n = ![0, 8, 512 * (i 1).val + 512 * (n.val + 1)] := by
  have := below_eq i n
  unfold k0_off8
  simp only [this]

/-! ## Blocks by half -/

/-- Lanes from `C` on of a pair's block hold `f`. -/
def Cols (x : S8192x256.Idx → EReal) (f : ℕ → ℕ → ℝ) (C : ℕ) : Prop :=
  ∀ (r : Fin 8192) (c : Fin 128) (h : C + c.val < 256), x (ix2 r ⟨C + c.val, h⟩) = ((f r c : ℝ) : EReal)

/-- Lanes from `C` on of a pair's tile hold the rows of `f` from `A` on. -/
def TCols (x : S512x256.Idx → EReal) (f : ℕ → ℕ → ℝ) (A C : ℕ) : Prop :=
  ∀ (r : Fin 512) (c : Fin 128) (h : C + c.val < 256), x (ix2 r ⟨C + c.val, h⟩) = ((f (A + r) c : ℝ) : EReal)

/-- Row `b` of a block of statistics holds `f`. -/
def SRow (x : S1x16x8192.Idx → EReal) (f : ℕ → ℝ) (b : Fin 16) : Prop :=
  ∀ r : Fin 8192, x (ix3 0 b r) = ((f r : ℝ) : EReal)

theorem rows_window {x : S8192x256.Idx → EReal} {f : ℕ → ℕ → ℝ} {B C : ℕ} (h : Cols x f C) (off : Fin 2 → ℕ)
    (inb : ∀ a, off a + S512x128.size a ≤ S8192x256.size a) (ho : off = ![B, C]) :
    Rows (window (s := S8192x256) x off S512x128.size inb) f B := by
  subst ho
  intro r c
  have hB : B + 512 ≤ 8192 := inb 0
  have hC : C + 128 ≤ 256 := inb 1
  have hr := r.isLt
  have hc := c.isLt
  refine Eq.trans (congrArg x ?_) (h ⟨B + r.val, by omega⟩ c (by omega))
  funext a
  fin_cases a
  · exact Fin.ext (show B + 1 * r.val = B + r.val by omega)
  · exact Fin.ext (show C + 1 * c.val = C + c.val by omega)

theorem rows_half {x : S512x256.Idx → EReal} {f : ℕ → ℕ → ℝ} {A C : ℕ} (h : TCols x f A C)
    (inb : ∀ a, (![0, C] : Fin 2 → ℕ) a + S512x128.size a ≤ S512x256.size a) :
    Rows (window (s := S512x256) x ![0, C] S512x128.size inb) f A := by
  intro r c
  have hC : C + 128 ≤ 256 := inb 1
  have hr := r.isLt
  have hc := c.isLt
  refine Eq.trans (congrArg x ?_) (h r c (by omega))
  funext a
  fin_cases a
  · exact Fin.ext (show 0 + 1 * r.val = r.val by omega)
  · exact Fin.ext (show C + 1 * c.val = C + c.val by omega)

theorem stat_window {x : S1x16x8192.Idx → EReal} {f : ℕ → ℝ} {B : ℕ} {b : Fin 16} (h : SRow x f b) (off : Fin 3 → ℕ)
    (inb : ∀ a, off a + S1x1x512.size a ≤ S1x16x8192.size a) (ho : off = ![0, b.val, B]) :
    Stat (window (s := S1x16x8192) x off S1x1x512.size inb) f B := by
  subst ho
  intro r
  have hB : B + 512 ≤ 8192 := inb 2
  have hr := r.isLt
  refine Eq.trans (congrArg x ?_) (h ⟨B + r.val, by omega⟩)
  funext a
  fin_cases a
  · exact Fin.ext rfl
  · exact Fin.ext (show b.val + 1 * 0 = b.val by omega)
  · exact Fin.ext (show B + 1 * r.val = B + r.val by omega)

theorem put_in {x : S8192x256.Idx → EReal} {f g : ℕ → ℕ → ℝ} {B C : ℕ} (h : Cols x f C) (off : Fin 2 → ℕ)
    (w : S512x128.Idx → EReal) (ho : off = ![B, C]) (hw : Rows w g B) :
    Cols (put (s := S8192x256) x off S512x128.size w) (fun r c => if B ≤ r ∧ r < B + 512 then g r c else f r c) C := by
  subst ho
  intro r c hc
  by_cases hr : B ≤ r.val ∧ r.val < B + 512
  · have hin : ∀ a : Fin 2, (![B, C] : Fin 2 → ℕ) a ≤ ((ix2 r ⟨C + c.val, hc⟩ : S8192x256.Idx) a).val
        ∧ ((ix2 r ⟨C + c.val, hc⟩ : S8192x256.Idx) a).val < (![B, C] : Fin 2 → ℕ) a + S512x128.size a := by
      intro a
      fin_cases a
      · exact hr
      · exact ⟨Nat.le_add_right C c.val, Nat.add_lt_add_left c.isLt C⟩
    unfold put
    refine (dif_pos hin).trans ?_
    simp only [if_pos hr]
    have e := hw ⟨r.val - B, by omega⟩ c
    rw [show B + (⟨r.val - B, by omega⟩ : Fin 512).val = r.val from by show B + (r.val - B) = r.val; omega] at e
    rw [← e]
    refine congrArg w (funext fun a => ?_)
    fin_cases a
    · rfl
    · exact Fin.ext (show C + c.val - C = c.val by omega)
  · have hout : ¬ ∀ a : Fin 2, (![B, C] : Fin 2 → ℕ) a ≤ ((ix2 r ⟨C + c.val, hc⟩ : S8192x256.Idx) a).val
        ∧ ((ix2 r ⟨C + c.val, hc⟩ : S8192x256.Idx) a).val < (![B, C] : Fin 2 → ℕ) a + S512x128.size a := fun hh => hr (hh 0)
    unfold put
    refine (dif_neg hout).trans ?_
    simp only [if_neg hr]
    exact h r c hc

theorem put_out {x : S8192x256.Idx → EReal} {f : ℕ → ℕ → ℝ} {B C C' : ℕ} (h : Cols x f C) (off : Fin 2 → ℕ)
    (w : S512x128.Idx → EReal) (ho : off = ![B, C']) (hd : C + 128 ≤ C' ∨ C' + 128 ≤ C) :
    Cols (put (s := S8192x256) x off S512x128.size w) f C := by
  subst ho
  intro r c hc
  have hout : ¬ ∀ a : Fin 2, (![B, C'] : Fin 2 → ℕ) a ≤ ((ix2 r ⟨C + c.val, hc⟩ : S8192x256.Idx) a).val
      ∧ ((ix2 r ⟨C + c.val, hc⟩ : S8192x256.Idx) a).val < (![B, C'] : Fin 2 → ℕ) a + S512x128.size a := fun hh => by
    have h1 : C' ≤ C + c.val ∧ C + c.val < C' + 128 := hh 1
    have := c.isLt
    omega
  unfold put
  exact (dif_neg hout).trans (h r c hc)

theorem Cols.congr {x : S8192x256.Idx → EReal} {f g : ℕ → ℕ → ℝ} {C : ℕ} (h : Cols x f C)
    (e : ∀ r c, f r c = g r c) : Cols x g C := fun r c hc => (h r c hc).trans (by rw [e])

theorem Rows.congr {x : S512x128.Idx → EReal} {f g : ℕ → ℕ → ℝ} {A : ℕ} (h : Rows x f A)
    (e : ∀ r c, f r c = g r c) : Rows x g A := fun r c => (h r c).trans (by rw [e])

/-! ## What the call reads and carries -/

/-- The blocks of a pair of heads at the tile of keys from `A` on. -/
structure Tiles (X : Ins Ideal) (H0 H1 : Head) (A : ℕ) : Prop where
  q0 : Cols X.q H0.q 0
  q1 : Cols X.q H1.q 128
  o0 : Cols X.o H0.o 0
  o1 : Cols X.o H1.o 128
  k0 : TCols X.k H0.k A 0
  k1 : TCols X.k H1.k A 128
  v0 : TCols X.v H0.v A 0
  v1 : TCols X.v H1.v A 128
  l0 : SRow X.l H0.l 0
  l1 : SRow X.l H1.l 8
  d0 : SRow X.d H0.d 0
  d1 : SRow X.d H1.d 8

/-- dq with the tile's keys added to the rows before `N`. -/
def dqTo (f : ℕ → ℕ → ℝ) (H : Head) (A N r c : ℕ) : ℝ := if r < N then addK f H.s H.k A r c else f r c

/-- The sum over the first `N` queries from `A` on. -/
def sumTo (g h : ℕ → ℕ → ℝ) (A N a c : ℕ) : ℝ := ∑ b ∈ Finset.range N, g a (A + b) * h (A + b) c

/-- What the call carries once the queries before `A + N` are swept. -/
structure Carries (s : St Ideal) (H0 H1 : Head) (f0 f1 : ℕ → ℕ → ℝ) (A N : ℕ) : Prop where
  dq0 : Cols s.dq (dqTo f0 H0 A (A + N)) 0
  dq1 : Cols s.dq (dqTo f1 H1 A (A + N)) 128
  k0 : Rows s.k0 (sumTo H0.s H0.q A N) A
  k1 : Rows s.k1 (sumTo H1.s H1.q A N) A
  v0 : Rows s.v0 (sumTo H0.p H0.o A N) A
  v1 : Rows s.v1 (sumTo H1.p H1.o A N) A

theorem addQ_sumTo (g h : ℕ → ℕ → ℝ) (A N a c : ℕ) : addQ (sumTo g h A N) g h (A + N) a c = sumTo g h A (N + 512) a c := by
  unfold addQ sumTo
  rw [Finset.sum_range_add]
  simp only [Nat.add_assoc]

theorem addQ_zero (g h : ℕ → ℕ → ℝ) (A a c : ℕ) : addQ (fun _ _ => 0) g h A a c = sumTo g h A 512 a c := by
  unfold addQ sumTo
  rw [zero_add]

theorem p_before (H : Head) {a b : ℕ} (h : b < a) : H.p a b = 0 := if_neg (by omega)

theorem s_before (H : Head) {a b : ℕ} (h : b < a) : H.s a b = 0 := by rw [Head.s, p_before H h, zero_mul]

theorem addK_before (f : ℕ → ℕ → ℝ) (H : Head) (A r c : ℕ) (h : r < A) : addK f H.s H.k A r c = f r c := by
  unfold addK
  rw [Finset.sum_eq_zero fun a _ => by rw [s_before H (by omega), zero_mul], add_zero]

theorem dqTo_first (f : ℕ → ℕ → ℝ) (H : Head) (A r c : ℕ) :
    (if A ≤ r ∧ r < A + 512 then addK f H.s H.k A r c else f r c) = dqTo f H A (A + 512) r c := by
  unfold dqTo
  by_cases h : r < A + 512
  · by_cases h' : A ≤ r
    · rw [if_pos ⟨h', h⟩, if_pos h]
    · rw [if_neg (fun hh => h' hh.1), if_pos h, addK_before _ _ _ _ _ (by omega)]
  · rw [if_neg (fun hh => h hh.2), if_neg h]

theorem dqTo_next (f : ℕ → ℕ → ℝ) (H : Head) (A N r c : ℕ) :
    (if A + N ≤ r ∧ r < A + N + 512 then addK (dqTo f H A (A + N)) H.s H.k A r c else dqTo f H A (A + N) r c)
      = dqTo f H A (A + (N + 512)) r c := by
  by_cases h : r < A + N
  · rw [if_neg (by omega)]
    unfold dqTo
    rw [if_pos h, if_pos (by omega)]
  · by_cases h' : r < A + N + 512
    · rw [if_pos ⟨by omega, h'⟩]
      unfold dqTo addK
      simp only [if_neg h, if_pos (show r < A + (N + 512) by omega)]
    · rw [if_neg (by omega)]
      unfold dqTo
      rw [if_neg h, if_neg (by omega)]

variable {i : grid0.Coords} {X : Ins Ideal} {H0 H1 : Head} {f0 f1 : ℕ → ℕ → ℝ}

theorem diag_carries (hX : Tiles X H0 H1 (512 * (i 1).val)) {dq : Vec Ideal S8192x256 .f32} (h0 : Cols dq f0 0) (h1 : Cols dq f1 128) :
    Carries (diag i X dq) H0 H1 f0 f1 (512 * (i 1).val) 512 := by
  have hQ0 := rows_window hX.q0 (k0_off1 i) (k0_off1_inb i) (off1_eq i)
  have hQ1 := rows_window hX.q1 (k0_off3 i) (k0_off3_inb i) (off3_eq i)
  have hO0 := rows_window hX.o0 (k0_off1 i) (k0_off1_inb i) (off1_eq i)
  have hO1 := rows_window hX.o1 (k0_off3 i) (k0_off3_inb i) (off3_eq i)
  have hK0 := rows_half hX.k0 inb_S512x256_S512x128_0_0
  have hK1 := rows_half hX.k1 inb_S512x256_S512x128_0_128
  have hV0 := rows_half hX.v0 inb_S512x256_S512x128_0_0
  have hV1 := rows_half hX.v1 inb_S512x256_S512x128_0_128
  have hL0 := stat_window hX.l0 (k0_off2 i) (k0_off2_inb i) (off2_eq i)
  have hL1 := stat_window hX.l1 (k0_off4 i) (k0_off4_inb i) (off4_eq i)
  have hD0 := stat_window hX.d0 (k0_off2 i) (k0_off2_inb i) (off2_eq i)
  have hD1 := stat_window hX.d1 (k0_off4 i) (k0_off4_inb i) (off4_eq i)
  have r0 := rows_window h0 (k0_off1 i) (k0_off1_inb i) (off1_eq i)
  have r1 := rows_window h1 (k0_off3 i) (k0_off3_inb i) (off3_eq i)
  refine ⟨?_, ?_, ?_, ?_, ?_, ?_⟩
  · exact (put_out (put_in h0 _ _ (off1_eq i) (q_diag hQ0 hO0 hK0 hV0 hL0 hD0 r0)) _ _ (off3_eq i) (.inl le_rfl)).congr
      (dqTo_first f0 H0 _)
  · exact (put_in (put_out h1 _ _ (off1_eq i) (.inr le_rfl)) _ _ (off3_eq i) (q_diag' hQ1 hO1 hK1 hV1 hL1 hD1 r1)).congr
      (dqTo_first f1 H1 _)
  · exact (k_diag hQ0 hO0 hK0 hV0 hL0 hD0 zero31).congr (addQ_zero _ _ _)
  · exact (k_diag' hQ1 hO1 hK1 hV1 hL1 hD1 zero32).congr (addQ_zero _ _ _)
  · exact (v_diag hQ0 hO0 hK0 hL0 zero33).congr (addQ_zero _ _ _)
  · exact (v_diag' hQ1 hO1 hK1 hL1 zero34).congr (addQ_zero _ _ _)

theorem trip_carries (hX : Tiles X H0 H1 (512 * (i 1).val)) (n : Fin (k0_t1_loop i).trips) {s : St Ideal}
    (hs : Carries s H0 H1 f0 f1 (512 * (i 1).val) (512 * (n.val + 1))) :
    Carries (trip i X n s) H0 H1 f0 f1 (512 * (i 1).val) (512 * (n.val + 1) + 512) := by
  have hQ0 := rows_window hX.q0 (k0_off5 i n) (k0_off5_inb i n) (off5_eq i n)
  have hQ1 := rows_window hX.q1 (k0_off7 i n) (k0_off7_inb i n) (off7_eq i n)
  have hO0 := rows_window hX.o0 (k0_off5 i n) (k0_off5_inb i n) (off5_eq i n)
  have hO1 := rows_window hX.o1 (k0_off7 i n) (k0_off7_inb i n) (off7_eq i n)
  have hK0 := rows_half hX.k0 inb_S512x256_S512x128_0_0
  have hK1 := rows_half hX.k1 inb_S512x256_S512x128_0_128
  have hV0 := rows_half hX.v0 inb_S512x256_S512x128_0_0
  have hV1 := rows_half hX.v1 inb_S512x256_S512x128_0_128
  have hL0 := stat_window hX.l0 (k0_off6 i n) (k0_off6_inb i n) (off6_eq i n)
  have hL1 := stat_window hX.l1 (k0_off8 i n) (k0_off8_inb i n) (off8_eq i n)
  have hD0 := stat_window hX.d0 (k0_off6 i n) (k0_off6_inb i n) (off6_eq i n)
  have hD1 := stat_window hX.d1 (k0_off8 i n) (k0_off8_inb i n) (off8_eq i n)
  have r0 := rows_window hs.dq0 (k0_off5 i n) (k0_off5_inb i n) (off5_eq i n)
  have r1 := rows_window hs.dq1 (k0_off7 i n) (k0_off7_inb i n) (off7_eq i n)
  have hAB : 512 * (i 1).val + 512 ≤ 512 * (i 1).val + 512 * (n.val + 1) := by omega
  exact
    { dq0 := (put_out (put_in hs.dq0 _ _ (off5_eq i n) (q_below hQ0 hO0 hK0 hV0 hL0 hD0 hAB r0)) _ _ (off7_eq i n) (.inl le_rfl)).congr
        (dqTo_next f0 H0 _ _)
      dq1 := (put_in (put_out hs.dq1 _ _ (off5_eq i n) (.inr le_rfl)) _ _ (off7_eq i n)
        (q_below' hQ1 hO1 hK1 hV1 hL1 hD1 hAB r1)).congr (dqTo_next f1 H1 _ _)
      k0 := (k_below hQ0 hO0 hK0 hV0 hL0 hD0 hAB hs.k0).congr (addQ_sumTo _ _ _ _)
      k1 := (k_below' hQ1 hO1 hK1 hV1 hL1 hD1 hAB hs.k1).congr (addQ_sumTo _ _ _ _)
      v0 := (v_below hQ0 hO0 hK0 hL0 hAB hs.v0).congr (addQ_sumTo _ _ _ _)
      v1 := (v_below' hQ1 hO1 hK1 hL1 hAB hs.v1).congr (addQ_sumTo _ _ _ _) }

theorem trips_carries (hX : Tiles X H0 H1 (512 * (i 1).val)) {G : St Ideal} (hG : Carries G H0 H1 f0 f1 (512 * (i 1).val) 512) :
    ∀ n ≤ (k0_t1_loop i).trips, Carries (trips i X G n) H0 H1 f0 f1 (512 * (i 1).val) (512 * (n + 1))
  | 0, _ => hG
  | n + 1, h => by
      rw [trips_succ i X G ⟨n, h⟩]
      exact trip_carries hX ⟨n, h⟩ (trips_carries hX hG n (Nat.le_of_succ_le h))

/-- After the sweep: every query is swept. -/
theorem sweep_carries (hX : Tiles X H0 H1 (512 * (i 1).val)) {dq : Vec Ideal S8192x256 .f32} (h0 : Cols dq f0 0) (h1 : Cols dq f1 128) :
    Carries (sweep i X dq) H0 H1 f0 f1 (512 * (i 1).val) (8192 - 512 * (i 1).val) := by
  have h := trips_carries hX (diag_carries hX h0 h1) (k0_t1_loop i).trips le_rfl
  have e : 512 * ((k0_t1_loop i).trips + 1) = 8192 - 512 * (i 1).val := by
    have h16 : (i 1).val < 16 := (i 1).isLt
    have := trips_eq i
    omega
  rw [e] at h
  exact h

/-- A sum over the queries from the tile on is the sum over all of them. -/
theorem sumTo_all (g h : ℕ → ℕ → ℝ) (hg : ∀ a b, b < a → g a b = 0) {A a : ℕ} (ha : A ≤ a) (hA : A ≤ 8192) (c : ℕ) :
    sumTo g h A (8192 - A) a c = ∑ b ∈ Finset.range 8192, g a b * h b c := by
  have e : (8192 : ℕ) = A + (8192 - A) := by omega
  unfold sumTo
  conv_rhs => rw [e, Finset.sum_range_add]
  rw [Finset.sum_eq_zero (s := Finset.range A) fun b hb => by
    rw [hg a b (by have := Finset.mem_range.mp hb; omega), zero_mul], zero_add]

/-- dq once the tiles of keys before `N` are swept. -/
def dqSum (H : Head) (N r c : ℕ) : ℝ := ∑ a ∈ Finset.range N, H.s a r * H.k a c

theorem dqTo_dqSum (H : Head) (A r c : ℕ) (hr : r < 8192) (hA : A ≤ 8192) :
    dqTo (dqSum H A) H A (A + (8192 - A)) r c = dqSum H (A + 512) r c := by
  unfold dqTo
  rw [if_pos (by omega)]
  unfold addK dqSum
  rw [Finset.sum_range_add]

end Cert.KernelIdeal.AttnBwd

end
-- ==== Proof.Blocks.lean ====
/- The call's blocks as parts of its arrays, and what its three results hold once every grid point has run. -/
module

public import proofs.«01_k».proof.Proof.Sweep
public import proofs.«01_k».proof.Proof.FrameI

@[expose] public section

set_option maxRecDepth 16384

noncomputable section

namespace Cert.KernelIdeal.AttnBwd

open Idealize.ShloMosaic Idealize.ShloMosaic.TcCoe Cert.KernelIdeal Cert.KernelIdeal.Gen
open Idealize.ShloMosaic.VecWindow (window put)
open Cert.Consts

theorem idx : ∀ t : Fin cfg0.N, win0_0.index t = ![0, t.val / 16] ∧ win0_1.index t = ![t.val % 16, t.val / 16]
    ∧ win0_2.index t = ![t.val % 16, t.val / 16] ∧ win0_3.index t = ![0, t.val / 16] ∧ win0_4.index t = ![t.val / 16, 0, 0]
    ∧ win0_5.index t = ![t.val / 16, 0, 0] ∧ win0_6.index t = ![0, t.val / 16] ∧ win0_7.index t = ![t.val % 16, t.val / 16]
    ∧ win0_8.index t = ![t.val % 16, t.val / 16] :=
  (by decide +kernel : ∀ t : Fin grid0.N, _)

variable (m : (ℓ : Loc nD τ sig) → Buf (Elt Ideal) ℓ)

/-- The call's six arrays as the numbers of eight heads. -/
structure Operands (c : Dev nD) (HH : ℕ → Head) : Prop where
  q : ∀ (r : Fin 8192) (x : Fin 1024), (V m c main_v35 : Vec Ideal S8192x1024 .bf16) (ix2 r x) = (((HH (x.val / 128)).q r (x.val % 128) : ℝ) : EReal)
  k : ∀ (r : Fin 8192) (x : Fin 1024), (V m c main_v39 : Vec Ideal S8192x1024 .bf16) (ix2 r x) = (((HH (x.val / 128)).k r (x.val % 128) : ℝ) : EReal)
  v : ∀ (r : Fin 8192) (x : Fin 1024), (V m c main_v43 : Vec Ideal S8192x1024 .bf16) (ix2 r x) = (((HH (x.val / 128)).v r (x.val % 128) : ℝ) : EReal)
  o : ∀ (r : Fin 8192) (x : Fin 1024), (V m c main_v47 : Vec Ideal S8192x1024 .bf16) (ix2 r x) = (((HH (x.val / 128)).o r (x.val % 128) : ℝ) : EReal)
  l : ∀ (p : Fin 4) (b : Fin 16) (r : Fin 8192), (V m c main_v50 : Vec Ideal S4x16x8192 .f32) (ix3 p b r) = (((HH (2 * p.val + b.val / 8)).l r : ℝ) : EReal)
  d : ∀ (p : Fin 4) (b : Fin 16) (r : Fin 8192), (V m c main_v53 : Vec Ideal S4x16x8192 .f32) (ix3 p b r) = (((HH (2 * p.val + b.val / 8)).d r : ℝ) : EReal)

theorem lt64 (t : Fin cfg0.N) : t.val < 64 := lt_of_lt_of_eq t.isLt N_0

theorem blk_q (c : Dev nD) (t : Fin cfg0.N) (r : Fin 8192) (x : Fin 256) :
    iblk m c 0 t (ix2 r x) = (V m c main_v35 : Vec Ideal S8192x1024 .bf16) (ix2 r ⟨256 * (t.val / 16) + x.val, by have := lt64 t; omega⟩) := by
  have := lt64 t
  blk_ext [iblk, idx t]

theorem blk_o (c : Dev nD) (t : Fin cfg0.N) (r : Fin 8192) (x : Fin 256) :
    iblk m c 3 t (ix2 r x) = (V m c main_v47 : Vec Ideal S8192x1024 .bf16) (ix2 r ⟨256 * (t.val / 16) + x.val, by have := lt64 t; omega⟩) := by
  have := lt64 t
  blk_ext [iblk, idx t]

theorem blk_k (c : Dev nD) (t : Fin cfg0.N) (r : Fin 512) (x : Fin 256) :
    iblk m c 1 t (ix2 r x) = (V m c main_v39 : Vec Ideal S8192x1024 .bf16) (ix2 ⟨512 * (t.val % 16) + r.val, by have := lt64 t; omega⟩ ⟨256 * (t.val / 16) + x.val, by have := lt64 t; omega⟩) := by
  have := lt64 t
  blk_ext [iblk, idx t]

theorem blk_v (c : Dev nD) (t : Fin cfg0.N) (r : Fin 512) (x : Fin 256) :
    iblk m c 2 t (ix2 r x) = (V m c main_v43 : Vec Ideal S8192x1024 .bf16) (ix2 ⟨512 * (t.val % 16) + r.val, by have := lt64 t; omega⟩ ⟨256 * (t.val / 16) + x.val, by have := lt64 t; omega⟩) := by
  have := lt64 t
  blk_ext [iblk, idx t]

theorem blk_l (c : Dev nD) (t : Fin cfg0.N) (b : Fin 16) (r : Fin 8192) :
    iblk m c 4 t (ix3 0 b r) = (V m c main_v50 : Vec Ideal S4x16x8192 .f32) (ix3 ⟨t.val / 16, by have := lt64 t; omega⟩ b r) := by
  have := lt64 t
  blk_ext [iblk, idx t]

theorem blk_d (c : Dev nD) (t : Fin cfg0.N) (b : Fin 16) (r : Fin 8192) :
    iblk m c 5 t (ix3 0 b r) = (V m c main_v53 : Vec Ideal S4x16x8192 .f32) (ix3 ⟨t.val / 16, by have := lt64 t; omega⟩ b r) := by
  have := lt64 t
  blk_ext [iblk, idx t]

end Cert.KernelIdeal.AttnBwd

end
-- ==== Proof.Soft.lean ====
/- The attention's masked scores, their row maxima, exponentials and totals, entry by entry, when the queries and keys are
   real numbers. -/
module

public import proofs.«01_k».proof.Proof.Cells

@[expose] public section

set_option maxRecDepth 16384

noncomputable section

namespace Cert.Soft

open Idealize.ShloMosaic Idealize.ShloMosaic.TcCoe Cert.KernelIdeal Cert.KernelIdeal.Gen
open Cert.Consts

/-- Which keys a query may see: those not after it. -/
def mask : IVec S8x8192x8192 1 :=
  broadcastInDim S8x8192x8192 ![0, 1, 2] bcast_S1x8192x8192_S8x8192x8192_0_1_2
    (broadcastInDim S1x8192x8192 ![1, 2] bcast_S8192x8192_S1x8192x8192_1_2
      (cmpi .sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

/-- The scaled scores, minus infinity where the mask forbids. -/
def scores (q k : FVec Ideal S8192x8x96 .f32) : FVec Ideal S8x8192x8192 .f32 :=
  select mask
    (Host.divf (Host.dotGeneral dot_S8192x8x96_S8192x8x96_S8x8192x8192_2_2_0_0_1_1 none q k)
      (broadcastInDim S8x8192x8192 ![] bcast_S_S8x8192x8192 (Host.sqrt (constant S_ .f32 0x42C00000#32))))
    (broadcastInDim S8x8192x8192 ![] bcast_S_S8x8192x8192 (id (constant S_ .f32 0xFF800000#32)))

/-- Each row's largest score. -/
def top (s : FVec Ideal S8x8192x8192 .f32) : FVec Ideal S8x8192 .f32 :=
  Host.reduce FloatOps.maximumf s (constant S_ .f32 0xFF800000#32) reducesTo_S8x8192x8192_S8x8192_d2 h_S_

/-- The exponentials of the scores less a row's number. -/
def wts (s : FVec Ideal S8x8192x8192 .f32) (t : FVec Ideal S8x8192 .f32) : FVec Ideal S8x8192x8192 .f32 :=
  Host.exp (subf s (broadcastInDim S8x8192x8192 ![0, 1, 2] bcast_S8x8192x1_S8x8192x8192_0_1_2
    (broadcastInDim S8x8192x1 ![0, 1] bcast_S8x8192_S8x8192x1_0_1 t)))

/-- Each row's total. -/
def tot (w : FVec Ideal S8x8192x8192 .f32) : FVec Ideal S8x8192 .f32 :=
  Host.reduceAdd w (constant S_ .f32 0x00000000#32) reducesTo_S8x8192x8192_S8x8192_d2 h_S_

/-- What the attention is given, as real numbers by row, head and lane, with one more number for each head and row. -/
structure Att where
  q : ℕ → ℕ → ℕ → ℝ
  k : ℕ → ℕ → ℕ → ℝ
  v : ℕ → ℕ → ℕ → ℝ
  g : ℕ → ℕ → ℕ → ℝ
  m : ℕ → ℕ → ℝ

/-- The scaled score of query `i` and key `j` of head `h`. -/
def Att.x (A : Att) (h i j : ℕ) : ℝ := (∑ c ∈ Finset.range 96, A.q i h c * A.k j h c) * sc

/-- Its exponential less the row's number, nothing for a key after the query. -/
def Att.e (A : Att) (h i j : ℕ) : ℝ := if j ≤ i then Real.exp (A.x h i j - A.m h i) else 0

/-- The row's total. -/
def Att.t (A : Att) (h i : ℕ) : ℝ := ∑ j ∈ Finset.range 8192, A.e h i j

theorem Att.e_nonneg (A : Att) (h i j : ℕ) : 0 ≤ A.e h i j := by
  unfold Att.e
  split
  · exact (Real.exp_pos _).le
  · exact le_refl _

theorem Att.t_pos (A : Att) (h i : ℕ) (hi : i < 8192) : 0 < A.t h i := by
  have h1 : A.e h i i ≤ A.t h i :=
    Finset.single_le_sum (f := fun j => A.e h i j) (fun j _ => A.e_nonneg h i j) (Finset.mem_range.2 hi)
  refine lt_of_lt_of_le ?_ h1
  rw [Att.e, if_pos (le_refl _)]
  exact Real.exp_pos _

theorem mask_at (h : Fin 8) (i j : Fin 8192) : mask (ix3 h i j) = if j.val ≤ i.val then 1#1 else 0#1 := by
  pointwise [mask]
  have hi := i.isLt
  have hj := j.isLt
  by_cases e : j.val ≤ i.val
  · rw [if_pos e]
    word_cmp
  · rw [if_neg e]
    word_cmp

theorem root : Ideal.sqrt (Ideal.ofBits FTy.f32 0x42C00000#32) = ((Real.sqrt 96 : ℝ) : EReal) := by
  rw [ofBits_96, Ideal.sqrt_coe, if_neg (by norm_num)]

theorem div_root (x : ℝ) : Ideal.div (x : EReal) (Ideal.sqrt (Ideal.ofBits FTy.f32 0x42C00000#32)) = ((x * sc : ℝ) : EReal) := by
  rw [root, Ideal.div_coe sqrt96_pos.ne', ← EReal.coe_mul, one_div]
  rfl

variable {A : Att} {q k : FVec Ideal S8192x8x96 .f32} {v g : FVec Ideal S8192x8x64 .f32}

/-- An array of rows, heads and `n` lanes holding `f`. -/
def Holds {n : ℕ} (x : (⟨3, ![8192, 8, n]⟩ : Shape).Idx → EReal) (f : ℕ → ℕ → ℕ → ℝ) : Prop :=
  ∀ (r : Fin 8192) (h : Fin 8) (c : Fin n), x (ix3 r h c) = ((f r h c : ℝ) : EReal)

theorem scores_at (hq : Holds q A.q) (hk : Holds k A.k) (h : Fin 8) (i j : Fin 8192) :
    scores q k (ix3 h i j) = if j.val ≤ i.val then ((A.x h i j : ℝ) : EReal) else ⊥ := by
  pointwise [scores, mask_at h i j]
  rw [coe_dot 96 _ _ (fun c => A.q i h c) (fun c => A.k j h c) (fun c => hq i h c) (fun c => hk j h c), div_root]
  split
  · rfl
  · exact ofBits_bot

theorem top_at (s : FVec Ideal S8x8192x8192 .f32) (f : ℕ → ℕ → ℕ → ℝ)
    (hs : ∀ (h : Fin 8) (i j : Fin 8192), s (ix3 h i j) = if j.val ≤ i.val then ((f h i j : ℝ) : EReal) else ⊥) (h : Fin 8) (i : Fin 8192) :
    ∃ M : ℝ, top s (ix2 h i) = ((M : ℝ) : EReal) := by
  pointwise [top]
  have e : ∀ y : EReal, y ≠ ⊤ → y ≠ ⊥ → ∃ M : ℝ, y = ((M : ℝ) : EReal) := fun y h1 h2 => ⟨y.toReal, (EReal.coe_toReal h1 h2).symm⟩
  refine e _ (ne_of_lt ((Finset.fold_max_lt _).2 ⟨?_, ?_⟩)) (ne_of_gt ((Finset.lt_fold_max _).2 (.inr ⟨i, Finset.mem_univ _, ?_⟩)))
  · rw [show _ = _ from ofBits_bot]
    exact bot_lt_top
  · intro j _
    rw [hs]
    split
    · exact EReal.coe_lt_top _
    · exact bot_lt_top
  · rw [hs, if_pos (le_refl _)]
    exact EReal.bot_lt_coe _

theorem wts_at (s : FVec Ideal S8x8192x8192 .f32) (t : FVec Ideal S8x8192 .f32)
    (hs : ∀ (h : Fin 8) (i j : Fin 8192), s (ix3 h i j) = if j.val ≤ i.val then ((A.x h i j : ℝ) : EReal) else ⊥)
    (ht : ∀ (h : Fin 8) (i : Fin 8192), t (ix2 h i) = ((A.m h i : ℝ) : EReal)) (h : Fin 8) (i j : Fin 8192) :
    wts s t (ix3 h i j) = ((A.e h i j : ℝ) : EReal) := by
  pointwise [wts]
  rw [hs, ht, Att.e]
  split
  · rw [← EReal.coe_sub, Ideal.exp_coe]
  · rw [EReal.bot_sub]
    rfl

theorem tot_at (w : FVec Ideal S8x8192x8192 .f32)
    (hw : ∀ (h : Fin 8) (i j : Fin 8192), w (ix3 h i j) = ((A.e h i j : ℝ) : EReal)) (h : Fin 8) (i : Fin 8192) :
    tot w (ix2 h i) = ((A.t h i : ℝ) : EReal) := by
  pointwise [tot]
  rw [Att.t, Finset.sum_range, ← coe_sum]
  exact Finset.sum_congr rfl fun j _ => hw h i j

end Cert.Soft

end
-- ==== Proof.Operands.lean ====
/- What the host code hands the call: the padded queries, keys, values and output gradients, the log-sums in base two and
   the deltas, as real numbers of the arguments. -/
module

public import proofs.«01_k».proof.Proof.Blocks
public import proofs.«01_k».proof.Proof.Soft
public import Idealize.ShloMosaic.Lib.StableHlo.RunRead

@[expose] public section

set_option maxRecDepth 16384

noncomputable section

namespace Cert.KernelIdeal.AttnBwd

open Idealize.ShloMosaic Idealize.ShloMosaic.TcCoe Cert.KernelIdeal Cert.KernelIdeal.Gen
open Cert.Consts Cert.Soft

/-- Each key's share of a row's attention. -/
def share (w : FVec Ideal S8x8192x8192 .f32) (z : FVec Ideal S8x8192 .f32) : FVec Ideal S8x8192x8192 .f32 :=
  Host.divf w (broadcastInDim S8x8192x8192 ![0, 1, 2] bcast_S8x8192x1_S8x8192x8192_0_1_2
    (broadcastInDim S8x8192x1 ![0, 1] bcast_S8x8192_S8x8192x1_0_1 z))

/-- The attention's result. -/
def attended (v : FVec Ideal S8192x8x64 .f32) (p : FVec Ideal S8x8192x8192 .f32) : FVec Ideal S8192x8x64 .f32 :=
  transpose S8192x8x64 [2, 0, 1] (Host.dotGeneral dot_S8192x8x64_S8x8192x8192_S8x64x8192_0_2_2_1_1_0 none v p)
    transposes_S8x64x8192_S8192x8x64_2_0_1

/-- The deltas: each row's product of the result and its gradient. -/
def delta (g o : FVec Ideal S8192x8x64 .f32) : FVec Ideal S8x8192 .f32 :=
  transpose S8x8192 [1, 0] (Host.reduceAdd (mulf g o) (constant S_ .f32 0x00000000#32) reducesTo_S8192x8x64_S8192x8_d2 h_S_)
    transposes_S8192x8_S8x8192_1_0

/-- The log-sums in base two. -/
def logs (t z : FVec Ideal S8x8192 .f32) : FVec Ideal S8x8192 .f32 :=
  shapeCast S8x8192 (Host.divf (addf (broadcastInDim S8x8192x1 ![0, 1] bcast_S8x8192_S8x8192x1_0_1 t)
      (Host.log (broadcastInDim S8x8192x1 ![0, 1] bcast_S8x8192_S8x8192x1_0_1 z)))
    (broadcastInDim S8x8192x1 ![] bcast_S_S8x8192x1 (Host.log (constant S_ .f32 0x40000000#32)))) shapeCasts_S8x8192x1_S8x8192

/-- A row of numbers for each head, eight times over, two heads to a block. -/
def spread (x : FVec Ideal S8x8192 .f32) : FVec Ideal S4x16x8192 .f32 :=
  shapeCast S4x16x8192 (broadcastInDim S8x8x8192 ![0, 1, 2] bcast_S8x1x8192_S8x8x8192_0_1_2
    (broadcastInDim S8x1x8192 ![0, 2] bcast_S8x8192_S8x1x8192_0_2 x)) shapeCasts_S8x8x8192_S4x16x8192

/-- The result of head `h`, query `i`, lane `c`. -/
def _root_.Cert.Soft.Att.o (A : Att) (i h c : ℕ) : ℝ := ∑ j ∈ Finset.range 8192, A.v j h c * (A.e h i j / A.t h i)

/-- What the call is given for head `h`. -/
def heads (A : Att) (h : ℕ) : Head where
  q r c := if c < 96 then A.q r h c else 0
  k r c := if c < 96 then A.k r h c else 0
  v r c := if c < 64 then A.v r h c else 1
  o r c := if c < 64 then A.g r h c else 0
  l r := (A.m h r + Real.log (A.t h r)) * (Real.log 2)⁻¹
  d r := ∑ c ∈ Finset.range 64, A.g r h c * A.o r h c

variable {A : Att}

theorem spread_at (x : FVec Ideal S8x8192 .f32) (f : ℕ → ℕ → ℝ) (hx : ∀ (h : Fin 8) (r : Fin 8192), x (ix2 h r) = ((f h r : ℝ) : EReal))
    (p : Fin 4) (b : Fin 16) (r : Fin 8192) : spread x (ix3 p b r) = ((f (2 * p.val + b.val / 8) r : ℝ) : EReal) := by
  pointwise [spread]
  rw [hx, Nat.mul_comm 2]

theorem logs_at (x z : FVec Ideal S8x8192 .f32) (hx : ∀ (h : Fin 8) (r : Fin 8192), x (ix2 h r) = ((A.m h r : ℝ) : EReal))
    (hz : ∀ (h : Fin 8) (r : Fin 8192), z (ix2 h r) = ((A.t h r : ℝ) : EReal)) (h : Fin 8) (r : Fin 8192) :
    logs x z (ix2 h r) = (((heads A h).l r : ℝ) : EReal) := by
  pointwise [logs]
  rw [hx, hz, Ideal.log_coe, if_neg (not_le.2 (A.t_pos h r r.isLt)), ofBits_two, Ideal.log_coe, if_neg (by norm_num),
    Ideal.div_coe log2_pos.ne', ← EReal.coe_add, ← EReal.coe_mul, one_div]
  rfl

theorem share_at (w : FVec Ideal S8x8192x8192 .f32) (z : FVec Ideal S8x8192 .f32)
    (hw : ∀ (h : Fin 8) (i j : Fin 8192), w (ix3 h i j) = ((A.e h i j : ℝ) : EReal))
    (hz : ∀ (h : Fin 8) (r : Fin 8192), z (ix2 h r) = ((A.t h r : ℝ) : EReal)) (h : Fin 8) (i j : Fin 8192) :
    share w z (ix3 h i j) = ((A.e h i j / A.t h i : ℝ) : EReal) := by
  pointwise [share]
  rw [hw, hz, Ideal.div_coe (A.t_pos h i i.isLt).ne', ← EReal.coe_mul, one_div]
  rfl

theorem attended_at (v : FVec Ideal S8192x8x64 .f32) (p : FVec Ideal S8x8192x8192 .f32) (hv : Holds v A.v)
    (hp : ∀ (h : Fin 8) (i j : Fin 8192), p (ix3 h i j) = ((A.e h i j / A.t h i : ℝ) : EReal)) :
    Holds (attended v p) A.o := by
  intro i h c
  pointwise [attended]
  rw [coe_dot 8192 _ _ (fun j => A.v j h c) (fun j => A.e h i j / A.t h i) (fun j => hv j h c) (fun j => hp h i j)]
  rfl

theorem delta_at (g o : FVec Ideal S8192x8x64 .f32) (hg : Holds g A.g) (ho : Holds o A.o) (h : Fin 8) (r : Fin 8192) :
    delta g o (ix2 h r) = (((heads A h).d r : ℝ) : EReal) := by
  pointwise [delta]
  rw [coe_dot 64 _ _ (fun c => A.g r h c) (fun c => A.o r h c) (fun c => hg r h c) (fun c => ho r h c)]
  rfl

variable (m : (ℓ : Loc nD τ sig) → Buf (Elt Ideal) ℓ) (c : Dev nD)

/-- The queries, keys, values and output gradients the program is given. -/
abbrev aq : FVec Ideal S8192x8x96 .f32 := m ((c : Thread nD τ).loc main_arg0)
abbrev ak : FVec Ideal S8192x8x96 .f32 := m ((c : Thread nD τ).loc main_arg1)
abbrev av : FVec Ideal S8192x8x64 .f32 := m ((c : Thread nD τ).loc main_arg2)
abbrev ag : FVec Ideal S8192x8x64 .f32 := m ((c : Thread nD τ).loc main_arg3)

theorem logs_read : (V m c main_v50 : Vec Ideal S4x16x8192 .f32) =
    spread (logs (top (scores (aq m c) (ak m c))) (tot (wts (scores (aq m c) (ak m c)) (top (scores (aq m c) (ak m c)))))) := by
  show StableHlo.after (hostOps0 ++ (hostOps0_1 ++ (hostOps0_2 ++ []))) (fun b => m (c, b)) (Proc.devRef .tc main_v50) = _
  after_reads_simp
  simp only [StableHlo.TRef.toBuf, StableHlo.TRef.ofBuf, cast_cast, cast_eq]
  rfl

theorem delta_read : (V m c main_v53 : Vec Ideal S4x16x8192 .f32) =
    spread (delta (ag m c) (attended (av m c) (share (wts (scores (aq m c) (ak m c)) (top (scores (aq m c) (ak m c))))
      (tot (wts (scores (aq m c) (ak m c)) (top (scores (aq m c) (ak m c)))))))) := by
  show StableHlo.after (hostOps0 ++ (hostOps0_1 ++ (hostOps0_2 ++ []))) (fun b => m (c, b)) (Proc.devRef .tc main_v53) = _
  after_reads_simp
  simp only [StableHlo.TRef.toBuf, StableHlo.TRef.ofBuf, cast_cast, cast_eq]
  rfl

theorem q_read (hq : Holds (aq m c) A.q) (r : Fin 8192) (x : Fin 1024) :
    (V m c main_v35 : Vec Ideal S8192x1024 .bf16) (ix2 r x) = (((heads A (x.val / 128)).q r (x.val % 128) : ℝ) : EReal) := by
  show StableHlo.after (hostOps0 ++ (hostOps0_1 ++ (hostOps0_2 ++ []))) (fun b => m (c, b)) (Proc.devRef .tc main_v35) (ix2 r x) = _
  after_reads_simp
  pointwise
  after_reads_simp
  pointwise
  simp only [heads]
  split
  · exact hq _ _ _
  · exact EReal.coe_zero.symm

theorem k_read (hk : Holds (ak m c) A.k) (r : Fin 8192) (x : Fin 1024) :
    (V m c main_v39 : Vec Ideal S8192x1024 .bf16) (ix2 r x) = (((heads A (x.val / 128)).k r (x.val % 128) : ℝ) : EReal) := by
  show StableHlo.after (hostOps0 ++ (hostOps0_1 ++ (hostOps0_2 ++ []))) (fun b => m (c, b)) (Proc.devRef .tc main_v39) (ix2 r x) = _
  after_reads_simp
  pointwise
  after_reads_simp
  pointwise
  simp only [heads]
  split
  · exact hk _ _ _
  · exact EReal.coe_zero.symm

theorem v_read (hv : Holds (av m c) A.v) (r : Fin 8192) (x : Fin 1024) :
    (V m c main_v43 : Vec Ideal S8192x1024 .bf16) (ix2 r x) = (((heads A (x.val / 128)).v r (x.val % 128) : ℝ) : EReal) := by
  show StableHlo.after (hostOps0 ++ (hostOps0_1 ++ (hostOps0_2 ++ []))) (fun b => m (c, b)) (Proc.devRef .tc main_v43) (ix2 r x) = _
  after_reads_simp
  pointwise
  after_reads_simp
  pointwise
  simp only [heads]
  split
  · exact hv _ _ _
  · exact EReal.coe_one.symm

theorem o_read (hg : Holds (ag m c) A.g) (r : Fin 8192) (x : Fin 1024) :
    (V m c main_v47 : Vec Ideal S8192x1024 .bf16) (ix2 r x) = (((heads A (x.val / 128)).o r (x.val % 128) : ℝ) : EReal) := by
  show StableHlo.after (hostOps0 ++ (hostOps0_1 ++ (hostOps0_2 ++ []))) (fun b => m (c, b)) (Proc.devRef .tc main_v47) (ix2 r x) = _
  after_reads_simp
  pointwise
  after_reads_simp
  pointwise
  simp only [heads]
  split
  · exact hg _ _ _
  · exact EReal.coe_zero.symm

/-- The row maxima are real numbers, so the arrays' numbers can be taken with them. -/
theorem operands (hq : Holds (aq m c) A.q) (hk : Holds (ak m c) A.k) (hv : Holds (av m c) A.v) (hg : Holds (ag m c) A.g)
    (ht : ∀ (h : Fin 8) (r : Fin 8192), top (scores (aq m c) (ak m c)) (ix2 h r) = ((A.m h r : ℝ) : EReal)) :
    Operands m c (heads A) where
  q := q_read m c hq
  k := k_read m c hk
  v := v_read m c hv
  o := o_read m c hg
  l := by
    rw [logs_read]
    exact spread_at _ (fun h r => (heads A h).l r) (logs_at _ _ ht (tot_at _ (wts_at _ _ (scores_at hq hk) ht)))
  d := by
    rw [delta_read]
    exact spread_at _ (fun h r => (heads A h).d r) (delta_at _ _ hg (attended_at _ _ hv
      (share_at _ _ (wts_at _ _ (scores_at hq hk) ht) (tot_at _ (wts_at _ _ (scores_at hq hk) ht)))))

end Cert.KernelIdeal.AttnBwd

end
-- ==== Proof.Results.lean ====
/- What the call's three results hold once every grid point has run. -/
module

public import proofs.«01_k».proof.Proof.Blocks

@[expose] public section

set_option maxRecDepth 16384

noncomputable section

namespace Cert.KernelIdeal.AttnBwd

open Idealize.ShloMosaic Idealize.ShloMosaic.TcCoe Cert.KernelIdeal Cert.KernelIdeal.Gen
open Idealize.ShloMosaic.VecWindow (window put)
open Cert.Consts

variable {m : (ℓ : Loc nD τ sig) → Buf (Elt Ideal) ℓ} {c : Dev nD} {HH : ℕ → Head}

theorem head_lt (t a x : ℕ) (h : x < 128) : (256 * t + (128 * a + x)) / 128 = 2 * t + a ∧ (256 * t + (128 * a + x)) % 128 = x := by
  omega

/-- Half `a` of block `P` of an array is head `2 P + a`. -/
theorem cols_of {x : S8192x256.Idx → EReal} {y : S8192x1024.Idx → EReal} (f : ℕ → ℕ → ℕ → ℝ) {P' C : ℕ} (P a : ℕ) (hP : P < 4) (hP' : P' = 2 * P + a) (hC : C = 128 * a)
    (hx : ∀ (r : Fin 8192) (z : Fin 256), x (ix2 r z) = y (ix2 r ⟨256 * P + z.val, by omega⟩))
    (hy : ∀ (r : Fin 8192) (z : Fin 1024), y (ix2 r z) = ((f (z.val / 128) r (z.val % 128) : ℝ) : EReal)) :
    Cols x (f P') C := by
  subst hP' hC
  intro r z h
  obtain ⟨e1, e2⟩ := head_lt P a z.val z.isLt
  rw [hx, hy]
  show ((f ((256 * P + (128 * a + z.val)) / 128) r ((256 * P + (128 * a + z.val)) % 128) : ℝ) : EReal) = _
  rw [e1, e2]

theorem tcols_of {x : S512x256.Idx → EReal} {y : S8192x1024.Idx → EReal} (f : ℕ → ℕ → ℕ → ℝ) {P' C : ℕ} (P a A : ℕ) (hP : P < 4) (hP' : P' = 2 * P + a) (hC : C = 128 * a) (hA : A + 512 ≤ 8192)
    (hx : ∀ (r : Fin 512) (z : Fin 256), x (ix2 r z) = y (ix2 ⟨A + r.val, by omega⟩ ⟨256 * P + z.val, by omega⟩))
    (hy : ∀ (r : Fin 8192) (z : Fin 1024), y (ix2 r z) = ((f (z.val / 128) r (z.val % 128) : ℝ) : EReal)) :
    TCols x (f P') A C := by
  subst hP' hC
  intro r z h
  obtain ⟨e1, e2⟩ := head_lt P a z.val z.isLt
  rw [hx, hy]
  show ((f ((256 * P + (128 * a + z.val)) / 128) (A + r.val) ((256 * P + (128 * a + z.val)) % 128) : ℝ) : EReal) = _
  rw [e1, e2]

theorem srow_of {x : S1x16x8192.Idx → EReal} {y : S4x16x8192.Idx → EReal} (f : ℕ → ℕ → ℝ) {P' : ℕ} (P a : ℕ) (b : Fin 16) (hP : P < 4) (hP' : P' = 2 * P + a) (hb : b.val / 8 = a)
    (hx : ∀ (b : Fin 16) (r : Fin 8192), x (ix3 0 b r) = y (ix3 ⟨P, hP⟩ b r))
    (hy : ∀ (p : Fin 4) (b : Fin 16) (r : Fin 8192), y (ix3 p b r) = ((f (2 * p.val + b.val / 8) r : ℝ) : EReal)) :
    SRow x (f P') b := by
  subst hP'
  intro r
  rw [hx, hy, hb]

set_option maxHeartbeats 4000000 in
theorem tiles (hO : Operands m c HH) (t : Fin cfg0.N) :
    Tiles (insAt m c t) (HH (2 * (t.val / 16))) (HH (2 * (t.val / 16) + 1)) (512 * (t.val % 16)) := by
  have h4 : t.val / 16 < 4 := by have := lt64 t; omega
  have hA : 512 * (t.val % 16) + 512 ≤ 8192 := by omega
  have e0 : 2 * (t.val / 16) = 2 * (t.val / 16) + 0 := (Nat.add_zero _).symm
  have c0 : 0 = 128 * 0 := by norm_num
  have c1 : 128 = 128 * 1 := by norm_num
  have b0 : (0 : Fin 16).val / 8 = 0 := by decide
  have b1 : (8 : Fin 16).val / 8 = 1 := by decide
  have q0 := cols_of (fun h => (HH h).q) (t.val / 16) 0 h4 e0 c0 (blk_q m c t) hO.q
  have q1 := cols_of (fun h => (HH h).q) (t.val / 16) 1 h4 rfl c1 (blk_q m c t) hO.q
  have o0 := cols_of (fun h => (HH h).o) (t.val / 16) 0 h4 e0 c0 (blk_o m c t) hO.o
  have o1 := cols_of (fun h => (HH h).o) (t.val / 16) 1 h4 rfl c1 (blk_o m c t) hO.o
  have k0 := tcols_of (fun h => (HH h).k) (t.val / 16) 0 _ h4 e0 c0 hA (blk_k m c t) hO.k
  have k1 := tcols_of (fun h => (HH h).k) (t.val / 16) 1 _ h4 rfl c1 hA (blk_k m c t) hO.k
  have v0 := tcols_of (fun h => (HH h).v) (t.val / 16) 0 _ h4 e0 c0 hA (blk_v m c t) hO.v
  have v1 := tcols_of (fun h => (HH h).v) (t.val / 16) 1 _ h4 rfl c1 hA (blk_v m c t) hO.v
  have l0 := srow_of (fun h => (HH h).l) (t.val / 16) 0 0 h4 e0 b0 (blk_l m c t) hO.l
  have l1 := srow_of (fun h => (HH h).l) (t.val / 16) 1 8 h4 rfl b1 (blk_l m c t) hO.l
  have d0 := srow_of (fun h => (HH h).d) (t.val / 16) 0 0 h4 e0 b0 (blk_d m c t) hO.d
  have d1 := srow_of (fun h => (HH h).d) (t.val / 16) 1 8 h4 rfl b1 (blk_d m c t) hO.d
  exact ⟨q0, q1, o0, o1, k0, k1, v0, v1, l0, l1, d0, d1⟩

/-- The tile's number at a grid point. -/
theorem tile_eq (t : Fin cfg0.N) : (grid0.coords t 1).val = t.val % 16 := by
  rw [coord1 t, Nat.div_one]

/-- The state at the end of a point's sweep, from the dq held at its start. -/
theorem after_cols (hO : Operands m c HH) (t : Fin cfg0.N)
    (h0 : Cols (dqIn m c t.val) (dqSum (HH (2 * (t.val / 16))) (512 * (t.val % 16))) 0)
    (h1 : Cols (dqIn m c t.val) (dqSum (HH (2 * (t.val / 16) + 1)) (512 * (t.val % 16))) 128) :
    Cols (stateAt m c t).dq (dqSum (HH (2 * (t.val / 16))) (512 * (t.val % 16) + 512)) 0
    ∧ Cols (stateAt m c t).dq (dqSum (HH (2 * (t.val / 16) + 1)) (512 * (t.val % 16) + 512)) 128
    ∧ Carries (stateAt m c t) (HH (2 * (t.val / 16))) (HH (2 * (t.val / 16) + 1)) (dqSum (HH (2 * (t.val / 16))) (512 * (t.val % 16)))
      (dqSum (HH (2 * (t.val / 16) + 1)) (512 * (t.val % 16))) (512 * (t.val % 16)) (8192 - 512 * (t.val % 16)) := by
  have hT := tiles hO t
  have hA : 512 * (t.val % 16) ≤ 8192 := by omega
  rw [← tile_eq t] at hT
  have hs := sweep_carries (i := grid0.coords t) hT h0 h1
  rw [tile_eq t] at hs
  rw [show stateAt m c t = sweep (grid0.coords t) (insAt m c t) (dqIn m c t.val) from by unfold stateAt; rfl]
  exact ⟨fun r x hx => (hs.dq0 r x hx).trans (by rw [dqTo_dqSum _ _ _ _ r.isLt hA]),
    fun r x hx => (hs.dq1 r x hx).trans (by rw [dqTo_dqSum _ _ _ _ r.isLt hA]), hs⟩

/-- dq held by the pair at the start of point `t`'s sweep. -/
theorem dqIn_cols (hO : Operands m c HH) : ∀ (n : ℕ) (h : n < cfg0.N),
    Cols (dqIn m c n) (dqSum (HH (2 * (n / 16))) (512 * (n % 16))) 0 ∧ Cols (dqIn m c n) (dqSum (HH (2 * (n / 16) + 1)) (512 * (n % 16))) 128
  | n, h => by
    by_cases h0 : n % 16 = 0
    · rw [dqIn_first m c ⟨n, h⟩ h0, h0]
      have e : ∀ (H : Head) (C : ℕ), Cols (k0_pay35 (F := Ideal)) (dqSum H (512 * 0)) C := fun H C r x hx => by
        rw [zero35]
        simp only [dqSum, Nat.mul_zero, Finset.range_zero, Finset.sum_empty]
      exact ⟨e _ _, e _ _⟩
    · match n, h, h0 with
      | 0, _, h0 => exact absurd rfl h0
      | n + 1, h, h0 =>
        have hn : n < cfg0.N := Nat.lt_of_succ_lt h
        have ih := dqIn_cols hO n hn
        have e1 : (n + 1) / 16 = n / 16 := by omega
        have e2 : 512 * ((n + 1) % 16) = 512 * (n % 16) + 512 := by omega
        have hs := after_cols hO ⟨n, hn⟩ ih.1 ih.2
        rw [e1, e2]
        rw [dqIn_next m c ⟨n + 1, h⟩ h0]
        exact ⟨hs.1, hs.2.1⟩

theorem state_carries (hO : Operands m c HH) (t : Fin cfg0.N) :
    Cols (stateAt m c t).dq (dqSum (HH (2 * (t.val / 16))) (512 * (t.val % 16) + 512)) 0
    ∧ Cols (stateAt m c t).dq (dqSum (HH (2 * (t.val / 16) + 1)) (512 * (t.val % 16) + 512)) 128
    ∧ Carries (stateAt m c t) (HH (2 * (t.val / 16))) (HH (2 * (t.val / 16) + 1)) (dqSum (HH (2 * (t.val / 16))) (512 * (t.val % 16)))
      (dqSum (HH (2 * (t.val / 16) + 1)) (512 * (t.val % 16))) (512 * (t.val % 16)) (8192 - 512 * (t.val % 16)) :=
  after_cols hO t (dqIn_cols hO t.val t.isLt).1 (dqIn_cols hO t.val t.isLt).2

/-! ## The results -/

/-- The gradient of the queries, lane by lane. -/
def Head.dq (H : Head) (r c : ℕ) : ℝ := (∑ a ∈ Finset.range 8192, H.s a r * H.k a c) * sc

/-- The gradient of the keys, lane by lane. -/
def Head.dk (H : Head) (r c : ℕ) : ℝ := (∑ b ∈ Finset.range 8192, H.s r b * H.q b c) * sc

/-- The gradient of the values, lane by lane. -/
def Head.dv (H : Head) (r c : ℕ) : ℝ := ∑ b ∈ Finset.range 8192, H.p r b * H.o b c

/-- An array of eight heads side by side. -/
def gather (f : ℕ → ℕ → ℕ → ℝ) : Vec Ideal S8192x1024 .f32 :=
  fun i => ((f ((i 1).val / 128) (i 0).val ((i 1).val % 128) : ℝ) : EReal)

/-- A block whose two halves hold two heads. -/
theorem halves {n : ℕ} {x : (⟨2, ![n, 256]⟩ : Shape).Idx → EReal} {f g : ℕ → ℕ → ℝ}
    (h0 : ∀ (r : Fin n) (c : Fin 128) (h : 0 + c.val < 256), x (ix2 r ⟨0 + c.val, h⟩) = ((f r c : ℝ) : EReal))
    (h1 : ∀ (r : Fin n) (c : Fin 128) (h : 128 + c.val < 256), x (ix2 r ⟨128 + c.val, h⟩) = ((g r c : ℝ) : EReal))
    (r : Fin n) (z : Fin 256) : x (ix2 r z) = (((if z.val / 128 = 0 then f r (z.val % 128) else g r (z.val % 128) : ℝ)) : EReal) := by
  by_cases h : z.val < 128
  · rw [if_pos (by omega)]
    have e := h0 r ⟨z.val, h⟩ (by show 0 + z.val < 256; omega)
    rw [show z.val % 128 = z.val by omega]
    refine Eq.trans (congrArg (fun w => x (ix2 r w)) (Fin.ext ?_)) e
    show z.val = 0 + z.val
    omega
  · rw [if_neg (by omega)]
    have e := h1 r ⟨z.val - 128, by omega⟩ (by show 128 + (z.val - 128) < 256; omega)
    rw [show z.val % 128 = z.val - 128 by omega]
    refine Eq.trans (congrArg (fun w => x (ix2 r w)) (Fin.ext ?_)) e
    show z.val = 128 + (z.val - 128)
    omega

/-- A tile put together from two halves. -/
theorem tile_halves {x : S512x256.Idx → EReal} {u w : S512x128.Idx → EReal} {f g : ℕ → ℕ → ℝ} {A : ℕ} (hu : Rows u f A) (hw : Rows w g A)
    (r : Fin 512) (z : Fin 256) :
    put (s := S512x256) (put (s := S512x256) x ![0, 0] S512x128.size u) ![0, 128] S512x128.size w (ix2 r z)
      = (((if z.val / 128 = 0 then f (A + r) (z.val % 128) else g (A + r) (z.val % 128) : ℝ)) : EReal) := by
  by_cases h : z.val < 128
  · rw [if_pos (by omega)]
    have hout : ¬ ∀ a : Fin 2, (![0, 128] : Fin 2 → ℕ) a ≤ ((ix2 r z : S512x256.Idx) a).val
        ∧ ((ix2 r z : S512x256.Idx) a).val < (![0, 128] : Fin 2 → ℕ) a + S512x128.size a := fun hh => by
      have h1 : 128 ≤ z.val ∧ z.val < 128 + 128 := hh 1
      omega
    have hin : ∀ a : Fin 2, (![0, 0] : Fin 2 → ℕ) a ≤ ((ix2 r z : S512x256.Idx) a).val
        ∧ ((ix2 r z : S512x256.Idx) a).val < (![0, 0] : Fin 2 → ℕ) a + S512x128.size a := by
      intro a
      fin_cases a
      · exact ⟨Nat.zero_le _, show r.val < 0 + 512 by have := r.isLt; omega⟩
      · exact ⟨Nat.zero_le _, show z.val < 0 + 128 by omega⟩
    unfold put
    refine (dif_neg hout).trans ((dif_pos hin).trans ?_)
    rw [show z.val % 128 = z.val by omega]
    refine Eq.trans (congrArg u (funext fun a => ?_)) (hu r ⟨z.val, h⟩)
    fin_cases a
    · exact Fin.ext (show r.val - 0 = r.val by omega)
    · exact Fin.ext (show z.val - 0 = z.val by omega)
  · rw [if_neg (by omega)]
    have hz := z.isLt
    have hin : ∀ a : Fin 2, (![0, 128] : Fin 2 → ℕ) a ≤ ((ix2 r z : S512x256.Idx) a).val
        ∧ ((ix2 r z : S512x256.Idx) a).val < (![0, 128] : Fin 2 → ℕ) a + S512x128.size a := by
      intro a
      fin_cases a
      · exact ⟨Nat.zero_le _, show r.val < 0 + 512 by have := r.isLt; omega⟩
      · exact ⟨show 128 ≤ z.val by omega, show z.val < 128 + 128 by omega⟩
    unfold put
    refine (dif_pos hin).trans ?_
    rw [show z.val % 128 = z.val - 128 by omega]
    refine Eq.trans (congrArg w (funext fun a => ?_)) (hw r ⟨z.val - 128, by omega⟩)
    fin_cases a
    · exact Fin.ext (show r.val - 0 = r.val by omega)
    · exact Fin.ext (show z.val - 128 = z.val - 128 by omega)

/-- Two heads of a pair read as the array of eight. -/
theorem pair_gather (f : ℕ → ℕ → ℕ → ℝ) (P r z : ℕ) (hz : z < 256) :
    (if z / 128 = 0 then f (2 * P) r (z % 128) else f (2 * P + 1) r (z % 128)) = f ((256 * P + z) / 128) r ((256 * P + z) % 128) := by
  have e : (256 * P + z) % 128 = z % 128 := by omega
  rw [e]
  by_cases h : z / 128 = 0
  · rw [if_pos h, show (256 * P + z) / 128 = 2 * P by omega]
  · rw [if_neg h, show (256 * P + z) / 128 = 2 * P + 1 by omega]

theorem final_v (hO : Operands m c HH) : (dats m 0 c).arrAt 8 cfg0.N = gather fun h => (HH h).dv := by
  refine Pipeline.Dat.arrAt_eq_of_covers (dats m 0 c) 8 _ (by decide +kernel) fun t _ y => ?_
  blk_simp [idx t]
  rw [after_8]
  have hs := (state_carries hO t).2.2
  have hA : 512 * (t.val % 16) + 512 ≤ 8192 := by omega
  have e0 : (((win0_8.blk t).view.emb y) 0).val = 512 * (t.val % 16) + (y 0).val := by
    blk_simp [idx t]
    try ring
  have e1 : (((win0_8.blk t).view.emb y) 1).val = 256 * (t.val / 16) + (y 1).val := by
    blk_simp [idx t]
    try ring
  have hy : y = ix2 (y 0) (y 1) := by funext a; fin_cases a <;> rfl
  have hv0 : Rows (stateAt m c t).v0 (HH (2 * (t.val / 16))).dv (512 * (t.val % 16)) := fun a b =>
    (hs.v0 a b).trans (by rw [sumTo_all _ _ (fun a b h => p_before _ h) (Nat.le_add_right _ _) (by omega)]; rfl)
  have hv1 : Rows (stateAt m c t).v1 (HH (2 * (t.val / 16) + 1)).dv (512 * (t.val % 16)) := fun a b =>
    (hs.v1 a b).trans (by rw [sumTo_all _ _ (fun a b h => p_before _ h) (Nat.le_add_right _ _) (by omega)]; rfl)
  unfold gather dvTile
  rw [e0, e1]
  beta_reduce
  rw [← pair_gather (fun h => (HH h).dv) _ _ _ (show (y 1).val < 256 from (y 1).isLt), hy]
  exact tile_halves hv0 hv1 (y 0) (y 1)

theorem final_k (hO : Operands m c HH) : (dats m 0 c).arrAt 7 cfg0.N = gather fun h => (HH h).dk := by
  refine Pipeline.Dat.arrAt_eq_of_covers (dats m 0 c) 7 _ (by decide +kernel) fun t _ y => ?_
  blk_simp [idx t]
  rw [after_7]
  have hs := (state_carries hO t).2.2
  have hA : 512 * (t.val % 16) + 512 ≤ 8192 := by omega
  have e0 : (((win0_7.blk t).view.emb y) 0).val = 512 * (t.val % 16) + (y 0).val := by
    blk_simp [idx t]
    try ring
  have e1 : (((win0_7.blk t).view.emb y) 1).val = 256 * (t.val / 16) + (y 1).val := by
    blk_simp [idx t]
    try ring
  have hy : y = ix2 (y 0) (y 1) := by funext a; fin_cases a <;> rfl
  have hv0 : Rows (k0_pay65 (stateAt m c t).k0) (HH (2 * (t.val / 16))).dk (512 * (t.val % 16)) := fun a b =>
    (scale65 hs.k0 a b).trans (by beta_reduce; rw [sumTo_all (HH (2 * (t.val / 16))).s _ (fun a b h => s_before _ h) (Nat.le_add_right _ _) (by omega)]; rfl)
  have hv1 : Rows (k0_pay1 (stateAt m c t).k1 (Named.named κ "scale" 0x3DD105EC#32)) (HH (2 * (t.val / 16) + 1)).dk (512 * (t.val % 16)) := fun a b =>
    (scale1 hs.k1 a b).trans (by beta_reduce; rw [sumTo_all (HH (2 * (t.val / 16) + 1)).s _ (fun a b h => s_before _ h) (Nat.le_add_right _ _) (by omega)]; rfl)
  unfold gather dkTile
  rw [e0, e1]
  beta_reduce
  rw [← pair_gather (fun h => (HH h).dk) _ _ _ (show (y 1).val < 256 from (y 1).isLt), hy]
  exact tile_halves hv0 hv1 (y 0) (y 1)

theorem final_q (hO : Operands m c HH) : (dats m 0 c).arrAt 6 cfg0.N = gather fun h => (HH h).dq := by
  refine Pipeline.Dat.arrAt_eq_of_covers (dats m 0 c) 6 _ (by decide +kernel) fun t hf y => ?_
  have h15 := (flush0_6 t).mp hf
  blk_simp [idx t]
  rw [after_6]
  have hs := state_carries hO t
  have e8 : 512 * (t.val % 16) + 512 = 8192 := by omega
  rw [e8] at hs
  have e0 : (((win0_6.blk t).view.emb y) 0).val = (y 0).val := by
    blk_simp [idx t]
    try ring
  have e1 : (((win0_6.blk t).view.emb y) 1).val = 256 * (t.val / 16) + (y 1).val := by
    blk_simp [idx t]
    try ring
  have hy : y = ix2 (y 0) (y 1) := by funext a; fin_cases a <;> rfl
  have hh := halves (n := 8192) hs.1 hs.2.1 (y 0) (y 1)
  unfold gather dqOut
  rw [if_pos h15, e0, e1]
  beta_reduce
  rw [← pair_gather (fun h => (HH h).dq) _ _ _ (show (y 1).val < 256 from (y 1).isLt)]
  refine (congrArg (k0_pay2 (stateAt m c t).dq) hy).trans ((scale2 (stateAt m c t).dq (y 0) (y 1)).trans
    ((congrArg (· * ((sc : ℝ) : EReal)) hh).trans ?_))
  show _ * _ = _
  rw [← EReal.coe_mul]
  congr 1
  split <;> rfl

end Cert.KernelIdeal.AttnBwd

end
-- ==== Proof.RefValue.lean ====
/- The reference's three results, entry by entry, when its arguments are real numbers. -/
module

public import proofs.«01_k».proof.Proof.Operands
public import proofs.«01_k».proof.Proof.Results
public import proofs.«01_k».proof.Proof.Gen.ReferenceIdeal.Run

@[expose] public section

set_option maxRecDepth 16384

noncomputable section

namespace Cert.RefValue

open Idealize.ShloMosaic Idealize.ShloMosaic.TcCoe Cert.ReferenceIdeal Cert.ReferenceIdeal.Gen
open Cert.Consts Cert.Soft

/-- A number for each row, along the row. -/
def wide (z : FVec Ideal S8x8192x1 .f32) : FVec Ideal S8x8192x8192 .f32 :=
  broadcastInDim S8x8192x8192 ![0, 1, 2] bcast_S8x8192x1_S8x8192x8192_0_1_2 z

/-- A number for each row, as a column. -/
def col (z : FVec Ideal S8x8192 .f32) : FVec Ideal S8x8192x1 .f32 :=
  broadcastInDim S8x8192x1 ![0, 1] bcast_S8x8192_S8x8192x1_0_1 z

/-- Each row's number, taken once more against minus infinity. -/
def topR (t : FVec Ideal S8x8192 .f32) : FVec Ideal S8x8192 .f32 :=
  maximumf (broadcastInDim S8x8192 ![] bcast_S_S8x8192 (constant S_ .f32 0xFF800000#32)) t

/-- The output gradients, lanes before rows. -/
def turned (g : FVec Ideal S8192x8x64 .f32) : FVec Ideal S8x64x8192 .f32 :=
  transpose S8x64x8192 [1, 2, 0] g transposes_S8192x8x64_S8x64x8192_1_2_0

/-- The gradient of each share. -/
def dshare (g v : FVec Ideal S8192x8x64 .f32) : FVec Ideal S8x8192x8192 .f32 :=
  Host.dotGeneral dot_S8x64x8192_S8192x8x64_S8x8192x8192_1_2_2_0_0_1 none (turned g) v

/-- The gradient of each row's total. -/
def dtot (u w : FVec Ideal S8x8192x8192 .f32) (z : FVec Ideal S8x8192 .f32) : FVec Ideal S8x8192 .f32 :=
  Host.reduceAdd (Host.negf (shapeCast S8x8192x1 (Host.reduceAdd (mulf (mulf u (wide (Host.divf
      (broadcastInDim S8x8192x1 ![] bcast_S_S8x8192x1 (constant S_ .f32 0x3F800000#32)) (mulf (col z) (col z))))) w)
    (constant S_ .f32 0x00000000#32) reducesTo_S8x8192x8192_S8x8192_d2 h_S_) shapeCasts_S8x8192_S8x8192x1))
    (constant S_ .f32 0x00000000#32) reducesTo_S8x8192x1_S8x8192_d2 h_S_

/-- The gradient of each score. -/
def dscore (u w : FVec Ideal S8x8192x8192 .f32) (z : FVec Ideal S8x8192 .f32) : FVec Ideal S8x8192x8192 .f32 :=
  Host.divf (select mask (mulf (addf (Host.divf u (wide (col z)))
      (broadcastInDim S8x8192x8192 ![0, 1] bcast_S8x8192_S8x8192x8192_0_1 (dtot u w z))) w)
      (broadcastInDim S8x8192x8192 ![] bcast_S_S8x8192x8192 (constant S_ .f32 0x00000000#32)))
    (broadcastInDim S8x8192x8192 ![] bcast_S_S8x8192x8192 (Host.sqrt (constant S_ .f32 0x42C00000#32)))

/-- The three results. -/
def outQ (s : FVec Ideal S8x8192x8192 .f32) (k : FVec Ideal S8192x8x96 .f32) : FVec Ideal S8192x1024 .f32 :=
  shapeCast S8192x1024 (pad S8192x8x128 ![0, 0, 0] ![0, 0, 32] ![0, 0, 0] (transpose S8192x8x96 [1, 0, 2]
    (Host.dotGeneral dot_S8x8192x8192_S8192x8x96_S8x8192x96_2_0_1_2_0_1 none s k) transposes_S8x8192x96_S8192x8x96_1_0_2)
    (sitofp .f32 (constantI S_ 32 0#32)) pads_S8192x8x96_S8192x8x128_000_000_0320 h_S_) shapeCasts_S8192x8x128_S8192x1024

def outK (s : FVec Ideal S8x8192x8192 .f32) (q : FVec Ideal S8192x8x96 .f32) : FVec Ideal S8192x1024 .f32 :=
  shapeCast S8192x1024 (pad S8192x8x128 ![0, 0, 0] ![0, 0, 32] ![0, 0, 0] (transpose S8192x8x96 [1, 0, 2]
    (Host.dotGeneral dot_S8x8192x8192_S8192x8x96_S8x8192x96_1_0_2_2_0_1 none s q) transposes_S8x8192x96_S8192x8x96_1_0_2)
    (sitofp .f32 (constantI S_ 32 0#32)) pads_S8192x8x96_S8192x8x128_000_000_0320 h_S_) shapeCasts_S8192x8x128_S8192x1024

def outV (w : FVec Ideal S8x8192x8192 .f32) (z : FVec Ideal S8x8192 .f32) (g : FVec Ideal S8192x8x64 .f32) : FVec Ideal S8192x1024 .f32 :=
  shapeCast S8192x1024 (pad S8192x8x128 ![0, 0, 0] ![0, 0, 64] ![0, 0, 0] (transpose S8192x8x64 [2, 0, 1]
    (Host.dotGeneral dot_S8x64x8192_S8x8192x8192_S8x64x8192_2_1_1_2_0_0 none (turned g) (Host.divf w (wide (col z))))
    transposes_S8x64x8192_S8192x8x64_2_0_1) (sitofp .f32 (constantI S_ 32 0#32)) pads_S8192x8x64_S8192x8x128_000_000_0640 h_S_)
    shapeCasts_S8192x8x128_S8192x1024

section
variable (m : (ℓ : Loc nD τ sig) → Buf (Elt Ideal) ℓ) (c : Dev nD)

abbrev aq : FVec Ideal S8192x8x96 .f32 := m ((c.tc : Thread nD τ).loc main_arg0)
abbrev ak : FVec Ideal S8192x8x96 .f32 := m ((c.tc : Thread nD τ).loc main_arg1)
abbrev av : FVec Ideal S8192x8x64 .f32 := m ((c.tc : Thread nD τ).loc main_arg2)
abbrev ag : FVec Ideal S8192x8x64 .f32 := m ((c.tc : Thread nD τ).loc main_arg3)

/-- The reference's exponentials and gradients of scores. -/
abbrev rwt : FVec Ideal S8x8192x8192 .f32 := wts (scores (aq m c) (ak m c)) (topR (top (scores (aq m c) (ak m c))))
abbrev rs : FVec Ideal S8x8192x8192 .f32 := dscore (dshare (ag m c) (av m c)) (rwt m c) (tot (rwt m c))

theorem outV_read : Value.res_main_v70 m c = outV (rwt m c) (tot (rwt m c)) (ag m c) := rfl
theorem outK_read : Value.res_main_v68 m c = outK (rs m c) (aq m c) := rfl
theorem outQ_read : Value.res_main_v66 m c = outQ (rs m c) (ak m c) := rfl
end

variable {A : Att}

/-- The gradient of the share of query `i` and key `j` of head `h`. -/
def _root_.Cert.Soft.Att.u (A : Att) (h i j : ℕ) : ℝ := ∑ c ∈ Finset.range 64, A.g i h c * A.v j h c

/-- The gradient of a row's total. -/
def _root_.Cert.Soft.Att.n (A : Att) (h i : ℕ) : ℝ := -∑ j ∈ Finset.range 8192, A.u h i j * (A.t h i * A.t h i)⁻¹ * A.e h i j

/-- The gradient of a score. -/
def _root_.Cert.Soft.Att.r (A : Att) (h i j : ℕ) : ℝ := (A.u h i j * (A.t h i)⁻¹ + A.n h i) * A.e h i j * sc

theorem topR_at (t : FVec Ideal S8x8192 .f32) (h : Fin 8) (i : Fin 8192) : topR t (ix2 h i) = t (ix2 h i) := by
  pointwise [topR]
  rw [ofBits_bot]
  exact max_eq_right bot_le

theorem dshare_at (g v : FVec Ideal S8192x8x64 .f32) (hg : Holds g A.g) (hv : Holds v A.v) (h : Fin 8) (i j : Fin 8192) :
    dshare g v (ix3 h i j) = ((A.u h i j : ℝ) : EReal) := by
  pointwise [dshare, turned]
  rw [coe_dot 64 _ _ (fun c => A.g i h c) (fun c => A.v j h c) (fun c => hg i h c) (fun c => hv j h c)]
  rfl

variable {u w : FVec Ideal S8x8192x8192 .f32} {z : FVec Ideal S8x8192 .f32}

theorem dtot_at (hu : ∀ (h : Fin 8) (i j : Fin 8192), u (ix3 h i j) = ((A.u h i j : ℝ) : EReal))
    (hw : ∀ (h : Fin 8) (i j : Fin 8192), w (ix3 h i j) = ((A.e h i j : ℝ) : EReal))
    (hz : ∀ (h : Fin 8) (i : Fin 8192), z (ix2 h i) = ((A.t h i : ℝ) : EReal)) (h : Fin 8) (i : Fin 8192) :
    dtot u w z (ix2 h i) = ((A.n h i : ℝ) : EReal) := by
  have ht := (A.t_pos h i i.isLt).ne'
  have e : ∀ x : Fin 8192, u (ix3 h i x) * Ideal.div 1 (z (ix2 h i) * z (ix2 h i)) * w (ix3 h i x)
      = ((A.u h i x * (A.t h i * A.t h i)⁻¹ * A.e h i x : ℝ) : EReal) := fun x => by
    rw [hu, hw, hz, ← EReal.coe_mul, Ideal.div_coe (mul_ne_zero ht ht), one_mul, ← EReal.coe_mul, ← EReal.coe_mul, one_div]
  pointwise [dtot, wide, col]
  rw [Finset.sum_congr rfl fun x _ => e x, coe_sum, Finset.sum_const, Finset.card_univ, Fintype.card_fin, one_smul, ← EReal.coe_neg,
    Att.n, Finset.sum_range]

theorem dscore_at (hu : ∀ (h : Fin 8) (i j : Fin 8192), u (ix3 h i j) = ((A.u h i j : ℝ) : EReal))
    (hw : ∀ (h : Fin 8) (i j : Fin 8192), w (ix3 h i j) = ((A.e h i j : ℝ) : EReal))
    (hz : ∀ (h : Fin 8) (i : Fin 8192), z (ix2 h i) = ((A.t h i : ℝ) : EReal)) (h : Fin 8) (i j : Fin 8192) :
    dscore u w z (ix3 h i j) = ((A.r h i j : ℝ) : EReal) := by
  pointwise [dscore, wide, col, mask_at h i j]
  rw [hu, hw, hz, dtot_at hu hw hz, Ideal.div_coe (A.t_pos h i i.isLt).ne', ← EReal.coe_mul, ← EReal.coe_add, ← EReal.coe_mul, one_div]
  split
  · rw [show ∀ a b : EReal, Scalar.select 1#1 a b = a from fun _ _ => rfl, div_root]
    rfl
  · next hh =>
    rw [show ∀ a b : EReal, Scalar.select 0#1 a b = b from fun _ _ => rfl, ← EReal.coe_zero, div_root, Att.r, Att.e, if_neg hh, mul_zero]

theorem sitofp_zero : (FloatOps.sitofp (F := Ideal) .f32 (0#32) : EReal) = ((0 : ℝ) : EReal) := by
  show ((((0#32 : BitVec 32).toInt : ℤ) : ℝ) : EReal) = _
  simp

variable {s : FVec Ideal S8x8192x8192 .f32} {q k : FVec Ideal S8192x8x96 .f32} {g : FVec Ideal S8192x8x64 .f32}

theorem outQ_at (hs : ∀ (h : Fin 8) (i j : Fin 8192), s (ix3 h i j) = ((A.r h i j : ℝ) : EReal)) (hk : Holds k A.k)
    (r : Fin 8192) (x : Fin 1024) : outQ s k (ix2 r x)
      = ((if x.val % 128 < 96 then ∑ j ∈ Finset.range 8192, A.r (x.val / 128) r j * A.k j (x.val / 128) (x.val % 128) else 0 : ℝ) : EReal) := by
  pointwise [outQ]
  have hx : x.val / 128 < 8 := by have := x.isLt; omega
  by_cases h : x.val % 128 < 96
  · refine (dif_pos ⟨hx, h⟩).trans (Eq.trans ?_ (congrArg Real.toEReal (if_pos h).symm))
    exact coe_dot 8192 _ _ (fun j => A.r (x.val / 128) r j) (fun j => A.k j (x.val / 128) (x.val % 128))
      (fun j => hs ⟨x.val / 128, hx⟩ r j) (fun j => hk j ⟨x.val / 128, hx⟩ ⟨x.val % 128, h⟩)
  · exact (dif_neg (fun e => h e.2)).trans (sitofp_zero.trans (congrArg Real.toEReal (if_neg h).symm))

theorem outK_at (hs : ∀ (h : Fin 8) (i j : Fin 8192), s (ix3 h i j) = ((A.r h i j : ℝ) : EReal)) (hq : Holds q A.q)
    (r : Fin 8192) (x : Fin 1024) : outK s q (ix2 r x)
      = ((if x.val % 128 < 96 then ∑ i ∈ Finset.range 8192, A.r (x.val / 128) i r * A.q i (x.val / 128) (x.val % 128) else 0 : ℝ) : EReal) := by
  pointwise [outK]
  have hx : x.val / 128 < 8 := by have := x.isLt; omega
  by_cases h : x.val % 128 < 96
  · refine (dif_pos ⟨hx, h⟩).trans (Eq.trans ?_ (congrArg Real.toEReal (if_pos h).symm))
    exact coe_dot 8192 _ _ (fun i => A.r (x.val / 128) i r) (fun i => A.q i (x.val / 128) (x.val % 128))
      (fun i => hs ⟨x.val / 128, hx⟩ i r) (fun i => hq i ⟨x.val / 128, hx⟩ ⟨x.val % 128, h⟩)
  · exact (dif_neg (fun e => h e.2)).trans (sitofp_zero.trans (congrArg Real.toEReal (if_neg h).symm))

theorem outV_at (hw : ∀ (h : Fin 8) (i j : Fin 8192), w (ix3 h i j) = ((A.e h i j : ℝ) : EReal))
    (hz : ∀ (h : Fin 8) (i : Fin 8192), z (ix2 h i) = ((A.t h i : ℝ) : EReal)) (hg : Holds g A.g)
    (r : Fin 8192) (x : Fin 1024) : outV w z g (ix2 r x)
      = ((if x.val % 128 < 64 then ∑ i ∈ Finset.range 8192, A.g i (x.val / 128) (x.val % 128) * (A.e (x.val / 128) i r * (A.t (x.val / 128) i)⁻¹) else 0 : ℝ) : EReal) := by
  have e : ∀ (h : Fin 8) (i : Fin 8192), Ideal.div (w (ix3 h i r)) (z (ix2 h i)) = ((A.e h i r * (A.t h i)⁻¹ : ℝ) : EReal) := fun h i => by
    rw [hw, hz, Ideal.div_coe (A.t_pos h i i.isLt).ne', ← EReal.coe_mul, one_div]
  pointwise [outV, turned, wide, col]
  have hx : x.val / 128 < 8 := by have := x.isLt; omega
  by_cases h : x.val % 128 < 64
  · refine (dif_pos ⟨hx, h⟩).trans (Eq.trans ?_ (congrArg Real.toEReal (if_pos h).symm))
    exact coe_dot 8192 _ _ (fun i => A.g i (x.val / 128) (x.val % 128)) (fun i => A.e (x.val / 128) i r * (A.t (x.val / 128) i)⁻¹)
      (fun i => hg i ⟨x.val / 128, hx⟩ ⟨x.val % 128, h⟩) (fun i => e ⟨x.val / 128, hx⟩ i)
  · exact (dif_neg (fun e => h e.2)).trans (sitofp_zero.trans (congrArg Real.toEReal (if_neg h).symm))

end Cert.RefValue

end
-- ==== Proof.Softmax.lean ====
/- The call's results and the reference's are the same real numbers: a weight in base two is a share of the row's
   total, and a delta is the row's sum of shares times their gradients. -/
module

public import proofs.«01_k».proof.Proof.RefValue

@[expose] public section

noncomputable section

namespace Cert.KernelIdeal.AttnBwd

open Cert.Consts Cert.Soft

variable (A : Att) (h : ℕ)

/-- A sum over 128 lanes whose terms vanish from lane `n` on. -/
theorem sum_lanes (n : ℕ) (hn : n ≤ 128) (f g : ℕ → ℝ) (h1 : ∀ c, c < n → f c = g c) (h2 : ∀ c, ¬ c < n → f c = 0) :
    ∑ c ∈ Finset.range 128, f c = ∑ c ∈ Finset.range n, g c := by
  rw [← Finset.sum_subset (Finset.range_mono hn) (fun c _ hc => h2 c (fun e => hc (Finset.mem_range.2 e)))]
  exact Finset.sum_congr rfl fun c hc => h1 c (Finset.mem_range.1 hc)

theorem score_eq (a b : ℕ) : ∑ c ∈ Finset.range 128, (heads A h).k a c * (heads A h).q b c
    = ∑ c ∈ Finset.range 96, A.q b h c * A.k a h c :=
  sum_lanes 96 (by norm_num) _ _ (fun c hc => by simp only [heads, if_pos hc]; ring) (fun c hc => by simp only [heads, if_neg hc]; ring)

theorem dshare_eq (a b : ℕ) : ∑ c ∈ Finset.range 128, (heads A h).v a c * (heads A h).o b c = A.u h b a :=
  sum_lanes 64 (by norm_num) _ _ (fun c hc => by simp only [heads, if_pos hc]; ring) (fun c hc => by simp only [heads, if_neg hc]; ring)

theorem weight_eq (a b : ℕ) (hb : b < 8192) : (heads A h).p a b = A.e h b a * (A.t h b)⁻¹ := by
  unfold Head.p Att.e
  split
  · have ht := A.t_pos h b hb
    have h2 := log2_pos.ne'
    rw [Head.w, score_eq, show ∀ x : ℝ, Real.rpow 2 x = (2 : ℝ) ^ x from fun _ => rfl, Real.rpow_def_of_pos (by norm_num)]
    rw [show Real.log 2 * ((∑ c ∈ Finset.range 96, A.q b h c * A.k a h c) * sc2 - (heads A h).l b)
        = (A.x h b a - A.m h b) - Real.log (A.t h b) by
      simp only [heads, Att.x, sc2, sc]
      field_simp
      ring]
    rw [Real.exp_sub, Real.exp_log ht, div_eq_mul_inv]
  · rw [zero_mul]

theorem delta_eq (b : ℕ) : (heads A h).d b = ∑ j ∈ Finset.range 8192, A.u h b j * A.e h b j * (A.t h b)⁻¹ := by
  show ∑ c ∈ Finset.range 64, A.g b h c * A.o b h c = _
  simp only [Att.o, Att.u, Finset.mul_sum, Finset.sum_mul]
  rw [Finset.sum_comm]
  exact Finset.sum_congr rfl fun j _ => Finset.sum_congr rfl fun c _ => by rw [div_eq_mul_inv]; ring

theorem dtotal_eq (b : ℕ) : A.n h b = -((heads A h).d b * (A.t h b)⁻¹) := by
  rw [delta_eq, Att.n, Finset.sum_mul]
  refine congrArg Neg.neg (Finset.sum_congr rfl fun j _ => ?_)
  rw [mul_inv]
  ring

theorem grad_eq (a b : ℕ) (hb : b < 8192) : (heads A h).s a b * sc = A.r h b a := by
  rw [Head.s, weight_eq A h a b hb, dshare_eq, Att.r, dtotal_eq]
  ring

theorem dq_eq (r c : ℕ) (hr : r < 8192) : (heads A h).dq r c
    = if c < 96 then ∑ j ∈ Finset.range 8192, A.r h r j * A.k j h c else 0 := by
  unfold Head.dq
  rw [Finset.sum_mul]
  split
  · next hc =>
    refine Finset.sum_congr rfl fun j _ => ?_
    rw [← grad_eq A h j r hr]
    simp only [heads, if_pos hc]
    ring
  · next hc => exact Finset.sum_eq_zero fun j _ => by simp only [heads, if_neg hc]; ring

theorem dk_eq (r c : ℕ) : (heads A h).dk r c
    = if c < 96 then ∑ i ∈ Finset.range 8192, A.r h i r * A.q i h c else 0 := by
  unfold Head.dk
  rw [Finset.sum_mul]
  split
  · next hc =>
    refine Finset.sum_congr rfl fun i hi => ?_
    rw [← grad_eq A h r i (Finset.mem_range.1 hi)]
    simp only [heads, if_pos hc]
    ring
  · next hc => exact Finset.sum_eq_zero fun j _ => by simp only [heads, if_neg hc]; ring

theorem dv_eq (r c : ℕ) : (heads A h).dv r c
    = if c < 64 then ∑ i ∈ Finset.range 8192, A.g i h c * (A.e h i r * (A.t h i)⁻¹) else 0 := by
  unfold Head.dv
  split
  · next hc =>
    refine Finset.sum_congr rfl fun i hi => ?_
    rw [weight_eq A h r i (Finset.mem_range.1 hi)]
    simp only [heads, if_pos hc]
    ring
  · next hc => exact Finset.sum_eq_zero fun j _ => by simp only [heads, if_neg hc]; ring

end Cert.KernelIdeal.AttnBwd

end
-- ==== Proof.Finite.lean ====
/- The precondition says every argument's entries are real numbers; the numbers themselves, and the row maxima. -/
module

public import proofs.«01_k».proof.Proof.Softmax
public import proofs.«01_k».proof.Pre_finite
public import proofs.«01_k».proof.Proof.Gen.Pre_finite
public import Idealize.ShloMosaic.Lib.ReduceAll
public import Idealize.ShloMosaic.Lib.Affine

@[expose] public section

set_option maxRecDepth 16384

noncomputable section

namespace Cert.Finite

open Idealize.ShloMosaic Cert.Consts Cert.Soft

/-- An extended real whose absolute value is below infinity is a real number. -/
theorem real_of_abs (x : EReal) (h : Ideal.cmp .olt (max x (-x)) (Ideal.ofBits .f32 0x7F800000#32) = 1#1) : ∃ y : ℝ, x = (y : EReal) := by
  rw [ofBits_top] at h
  have h1 : max x (-x) < ⊤ := by
    by_contra hn
    rw [Ideal.cmp, decide_eq_false hn] at h
    exact absurd h (by decide)
  have hx : x < ⊤ := lt_of_le_of_lt (le_max_left _ _) h1
  have hy : -x < ⊤ := lt_of_le_of_lt (le_max_right _ _) h1
  have hb : x ≠ ⊥ := fun e => by
    rw [e, EReal.neg_bot] at hy
    exact lt_irrefl _ hy
  exact ⟨x.toReal, (EReal.coe_toReal hx.ne hb).symm⟩

theorem all_real (q k : FVec Ideal Pre_finite.S8192x8x96 .f32) (v g : FVec Ideal Pre_finite.S8192x8x64 .f32)
    (h : Pre_finite.fn (F := Ideal) q k v g = fun _ => 1#1) :
    ((∀ i, ∃ y : ℝ, q i = (y : EReal)) ∧ (∀ i, ∃ y : ℝ, k i = (y : EReal)))
      ∧ (∀ i, ∃ y : ℝ, v i = (y : EReal)) ∧ (∀ i, ∃ y : ℝ, g i = (y : EReal)) := by
  have h0 := congrFun h ix0
  dsimp only [Pre_finite.fn, Pre_finite.fn_part1] at h0
  obtain ⟨h1, hg⟩ := IntOp.andi_eq_one.1 h0
  obtain ⟨h2, hv⟩ := IntOp.andi_eq_one.1 h1
  obtain ⟨hq, hk⟩ := IntOp.andi_eq_one.1 h2
  have hs : Subsingleton Pre_finite.S_.Idx := ⟨fun a b => funext fun x => x.elim0⟩
  exact ⟨⟨fun i => real_of_abs _ (Host.reduce_andi_all _ _ _ _ _ hq i), fun i => real_of_abs _ (Host.reduce_andi_all _ _ _ _ _ hk i)⟩,
    fun i => real_of_abs _ (Host.reduce_andi_all _ _ _ _ _ hv i), fun i => real_of_abs _ (Host.reduce_andi_all _ _ _ _ _ hg i)⟩

/-- An array's entries as real numbers. -/
def reals {n : ℕ} (x : (⟨3, ![8192, 8, n]⟩ : Shape).Idx → EReal) (r h c : ℕ) : ℝ :=
  if e : r < 8192 ∧ h < 8 ∧ c < n then (x (ix3 ⟨r, e.1⟩ ⟨h, e.2.1⟩ ⟨c, e.2.2⟩)).toReal else 0

theorem holds_reals {n : ℕ} (x : (⟨3, ![8192, 8, n]⟩ : Shape).Idx → EReal) (hx : ∀ i, ∃ y : ℝ, x i = (y : EReal)) : Holds x (reals x) := by
  intro r h c
  obtain ⟨y, hy⟩ := hx (ix3 r h c)
  rw [reals, dif_pos ⟨r.isLt, h.isLt, c.isLt⟩]
  show x (ix3 r h c) = ((x (ix3 r h c)).toReal : EReal)
  rw [hy, EReal.toReal_coe]

/-- The arguments' entries and the row maxima as real numbers. -/
def att (q k : FVec Ideal KernelIdeal.S8192x8x96 .f32) (v g : FVec Ideal KernelIdeal.S8192x8x64 .f32) : Att where
  q := reals q
  k := reals k
  v := reals v
  g := reals g
  m h r := if e : h < 8 ∧ r < 8192 then EReal.toReal (top (scores q k) (ix2 ⟨h, e.1⟩ ⟨r, e.2⟩)) else 0

theorem top_att (q k : FVec Ideal KernelIdeal.S8192x8x96 .f32) (v g : FVec Ideal KernelIdeal.S8192x8x64 .f32)
    (hq : Holds q (reals q)) (hk : Holds k (reals k)) (h : Fin 8) (r : Fin 8192) :
    top (scores q k) (ix2 h r) = (((att q k v g).m h r : ℝ) : EReal) := by
  obtain ⟨y, hy⟩ := top_at (scores q k) (fun h i j => (att q k v g).x h i j) (scores_at (A := att q k v g) hq hk) h r
  rw [att]
  simp only []
  rw [dif_pos ⟨h.isLt, r.isLt⟩]
  show top (scores q k) (ix2 h r) = ((EReal.toReal (top (scores q k) (ix2 h r)) : ℝ) : EReal)
  rw [hy, EReal.toReal_coe]

end Cert.Finite

end
-- ==== Proof.Algebraic.lean ====
/- The value claim: on real arguments the call and the reference leave the same three gradients. -/
module

public import proofs.«01_k».proof.Defs
public import proofs.«01_k».proof.Proof.Finite

@[expose] public section

set_option maxRecDepth 16384

noncomputable section

namespace Cert.Proof.Algebraic

open Idealize.ShloMosaic Idealize.ShloMosaic.TcCoe Idealize.SL.Sem
open Cert.Soft Cert.Finite Cert.KernelIdeal.AttnBwd

variable (m : (ℓ : Loc KernelIdeal.nD KernelIdeal.τ KernelIdeal.sig) → Buf (Elt Ideal) ℓ)

/-- Device `c`'s arguments as real numbers. -/
abbrev A (c : Dev KernelIdeal.nD) : Att := att (aq m c) (ak m c) (av m c) (ag m c)

/-- The three gradients. -/
def gradQ (c : Dev KernelIdeal.nD) : Vec Ideal KernelIdeal.S8192x1024 .f32 := gather fun h => (heads (A m c) h).dq
def gradK (c : Dev KernelIdeal.nD) : Vec Ideal KernelIdeal.S8192x1024 .f32 := gather fun h => (heads (A m c) h).dk
def gradV (c : Dev KernelIdeal.nD) : Vec Ideal KernelIdeal.S8192x1024 .f32 := gather fun h => (heads (A m c) h).dv

/-- The four arguments hold the numbers. -/
structure Given (c : Dev KernelIdeal.nD) : Prop where
  q : Holds (aq m c) (A m c).q
  k : Holds (ak m c) (A m c).k
  v : Holds (av m c) (A m c).v
  g : Holds (ag m c) (A m c).g

theorem given (hp : Pre_KernelIdeal_finite m) (c : Dev KernelIdeal.nD) : Given m c := by
  obtain ⟨⟨hq, hk⟩, hv, hg⟩ := all_real _ _ _ _ (hp c)
  exact ⟨holds_reals _ hq, holds_reals _ hk, holds_reals _ hv, holds_reals _ hg⟩

theorem given_operands {c : Dev KernelIdeal.nD} (h : Given m c) : Operands m c (heads (A m c)) :=
  operands m c h.q h.k h.v h.g (top_att _ _ _ _ h.q h.k)

section
variable {m} {c : Dev KernelIdeal.nD} (h : Given m c)
  (m' : (ℓ : Loc ReferenceIdeal.nD ReferenceIdeal.τ ReferenceIdeal.sig) → Buf (Elt Ideal) ℓ)
  (e0 : RefValue.aq m' c = aq m c) (e1 : RefValue.ak m' c = ak m c) (e2 : RefValue.av m' c = av m c) (e3 : RefValue.ag m' c = ag m c)

include h e0 e1 in
theorem weights (a : Fin 8) (i j : Fin 8192) : RefValue.rwt m' c (ix3 a i j) = (((A m c).e a i j : ℝ) : EReal) := by
  unfold RefValue.rwt
  rw [e0, e1]
  exact wts_at _ _ (scores_at h.q h.k) (fun a i => (RefValue.topR_at _ a i).trans (top_att _ _ _ _ h.q h.k a i)) a i j

include h e0 e1 in
theorem totals (a : Fin 8) (i : Fin 8192) : tot (RefValue.rwt m' c) (ix2 a i) = (((A m c).t a i : ℝ) : EReal) :=
  tot_at _ (weights h m' e0 e1) a i

include h e0 e1 e2 e3 in
theorem grads (a : Fin 8) (i j : Fin 8192) : RefValue.rs m' c (ix3 a i j) = (((A m c).r a i j : ℝ) : EReal) := by
  refine RefValue.dscore_at (fun a i j => ?_) (weights h m' e0 e1) (totals h m' e0 e1) a i j
  rw [e2, e3]
  exact RefValue.dshare_at _ _ h.g h.v a i j

include h e0 e1 e2 e3 in
theorem ref_q : RefValue.outQ (RefValue.rs m' c) (RefValue.ak m' c) = gradQ m c := by
  funext i
  obtain ⟨r, x, rfl⟩ : ∃ (r : Fin 8192) (x : Fin 1024), i = ix2 r x := ⟨i 0, i 1, funext fun a => by fin_cases a <;> rfl⟩
  rw [e1]
  exact (RefValue.outQ_at (grads h m' e0 e1 e2 e3) h.k r x).trans (congrArg Real.toEReal (dq_eq (A m c) (x.val / 128) r (x.val % 128) r.isLt).symm)

include h e0 e1 e2 e3 in
theorem ref_k : RefValue.outK (RefValue.rs m' c) (RefValue.aq m' c) = gradK m c := by
  funext i
  obtain ⟨r, x, rfl⟩ : ∃ (r : Fin 8192) (x : Fin 1024), i = ix2 r x := ⟨i 0, i 1, funext fun a => by fin_cases a <;> rfl⟩
  rw [e0]
  exact (RefValue.outK_at (grads h m' e0 e1 e2 e3) h.q r x).trans (congrArg Real.toEReal (dk_eq (A m c) (x.val / 128) r (x.val % 128)).symm)

include h e0 e1 e3 in
theorem ref_v : RefValue.outV (RefValue.rwt m' c) (tot (RefValue.rwt m' c)) (RefValue.ag m' c) = gradV m c := by
  funext i
  obtain ⟨r, x, rfl⟩ : ∃ (r : Fin 8192) (x : Fin 1024), i = ix2 r x := ⟨i 0, i 1, funext fun a => by fin_cases a <;> rfl⟩
  rw [e3]
  exact (RefValue.outV_at (weights h m' e0 e1) (totals h m' e0 e1) h.g r x).trans (congrArg Real.toEReal (dv_eq (A m c) (x.val / 128) r (x.val % 128)).symm)

end

theorem algebraic : Cert.algebraic_KernelIdeal_ReferenceIdeal_pre_finite := by
  intro m ρ m' ρ' hp hagree
  refine ⟨gradQ m, gradK m, gradV m, ?_, ?_⟩
  · refine (θ_run KernelIdeal.defs _ _).mono (fun r hr c => ⟨?_, ?_, ?_, hr.2 c⟩) (θ_run_and (run_main m ρ) (unchanged m ρ))
    · exact ((hr.1 c).1 6).trans (final_q (given_operands m (given m hp c)))
    · exact ((hr.1 c).1 7).trans (final_k (given_operands m (given m hp c)))
    · exact ((hr.1 c).1 8).trans (final_v (given_operands m (given m hp c)))
  · refine (θ_run ReferenceIdeal.defs _ _).mono (fun r hr c => ?_) (ReferenceIdeal.Value.run (F := Ideal) m' ρ')
    obtain ⟨h0, h1, h2, hrest⟩ := hr c
    obtain ⟨e0, e1, e2, e3⟩ := hagree c
    exact ⟨h0.trans ((RefValue.outQ_read m' c).trans (ref_q (given m hp c) m' e0 e1 e2 e3)),
      h1.trans ((RefValue.outK_read m' c).trans (ref_k (given m hp c) m' e0 e1 e2 e3)),
      h2.trans ((RefValue.outV_read m' c).trans (ref_v (given m hp c) m' e0 e1 e3)), hrest⟩

end Cert.Proof.Algebraic

end
-- ==== Proof.Gate.lean ====
/- The gradients of the gate: the call multiplies by derivatives taken ahead, the reference differentiates the gate. -/
module

public import proofs.«01_k».proof.Defs
public import proofs.«01_k».proof.Proof.Gen.Gate.Frame
public import proofs.«01_k».proof.Proof.Gen.GateIdeal.Frame
public import proofs.«01_k».proof.Proof.Gen.GateRefIdeal.Run
public import proofs.«01_k».proof.Proof.Finite
public import proofs.«01_k».proof.Pre_finite2
public import proofs.«01_k».proof.Proof.Gen.Pre_finite2
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Product

open Cert.GateIdeal Cert.GateIdeal.Gen

variable (m : (ℓ : Loc nD τ sig) → Buf (Elt Ideal) ℓ)

/-- The product with the transposed weight, at an entry. -/
abbrev prod (W : FVec Ideal S2816x1024 .f32) (D : FVec Ideal S8192x1024 .f32) (j : S8192x2816.Idx) : EReal :=
  ∑ k : Fin 1024, D (ix2 (j 0) k) * W (ix2 (j 1) k)

/-- The sigmoid, as the host computes it. -/
abbrev sg (a : EReal) : EReal := Ideal.div 1 (1 + Ideal.exp (-a))

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![t.val, 0] :=
  (by decide +kernel : ∀ t : Fin grid0.N, _)

variable (c : Dev nD)

/-- The arguments. -/
abbrev A : FVec Ideal S8192x2816 .f32 := m ((c : Thread nD τ).loc main_arg0)
abbrev B : FVec Ideal S8192x2816 .f32 := m ((c : Thread nD τ).loc main_arg1)
abbrev W : FVec Ideal S2816x1024 .f32 := m ((c : Thread nD τ).loc main_arg2)
abbrev D : FVec Ideal S8192x1024 .f32 := m ((c : Thread nD τ).loc main_arg3)

theorem a_read (j : S8192x2816.Idx) : (V m c main_v13 : Vec Ideal S8192x2816 .bf16) j
    = B m c j * (sg (A m c j) * (1 + A m c j * (1 - sg (A m c j)))) := by
  show StableHlo.after hostOps0 (fun b => m (c, b)) (Proc.devRef .tc main_v13) j = _
  after_reads_simp
  pointwise

theorem b_read (j : S8192x2816.Idx) : (V m c main_v15 : Vec Ideal S8192x2816 .bf16) j = A m c j * sg (A m c j) := by
  show StableHlo.after hostOps0 (fun b => m (c, b)) (Proc.devRef .tc main_v15) j = _
  after_reads_simp
  pointwise

theorem d_read (j : S8192x1024.Idx) : (V m c main_v16 : Vec Ideal S8192x1024 .bf16) j = D m c j := by
  show StableHlo.after hostOps0 (fun b => m (c, b)) (Proc.devRef .tc main_v16) j = _
  after_reads_simp
  pointwise

theorem w_read (q : Fin 2816) (k : Fin 1024) :
    (V m c main_v18 : Vec Ideal S8x352x1024 .bf16) (ix3 ⟨q.val / 352, by omega⟩ ⟨q.val % 352, by omega⟩ k) = W m c (ix2 q k) := by
  show StableHlo.after hostOps0 (fun b => m (c, b)) (Proc.devRef .tc main_v18) _ = _
  after_reads_simp
  pointwise

theorem lt32 (t : Fin cfg0.N) : t.val < 32 := t.isLt

/-- The row of the arrays that a block's row is. -/
abbrev row (t : Fin cfg0.N) (p : Fin 256) : Fin 8192 := ⟨256 * t.val + p.val, by have := lt32 t; omega⟩

theorem pay_a (D : Vec Ideal S256x1024 .bf16) (W : Vec Ideal S8x352x1024 .bf16) (T : Vec Ideal S256x2816 .bf16) (p : Fin 256) (q : Fin 2816) :
    k0_pay2 D W T (ix2 p q) = (∑ k : Fin 1024, D (ix2 p k) * W (ix3 ⟨q.val / 352, by omega⟩ ⟨q.val % 352, by omega⟩ k)) * T (ix2 p q) := by
  pointwise [k0_pay2, k0_pay1]

theorem pay_b (D : Vec Ideal S256x1024 .bf16) (W : Vec Ideal S8x352x1024 .bf16) (T : Vec Ideal S256x2816 .bf16) (p : Fin 256) (q : Fin 2816) :
    k0_pay3 D W T (ix2 p q) = (∑ k : Fin 1024, D (ix2 p k) * W (ix3 ⟨q.val / 352, by omega⟩ ⟨q.val % 352, by omega⟩ k)) * T (ix2 p q) := by
  pointwise [k0_pay3, k0_pay1]

theorem blk_d (t : Fin cfg0.N) (p : Fin 256) (k : Fin 1024) :
    iblk m c 0 t (ix2 p k) = (V m c main_v16 : Vec Ideal S8192x1024 .bf16) (ix2 (row t p) k) := by
  have := lt32 t
  blk_ext [iblk, idx t]

theorem blk_w (t : Fin cfg0.N) (p : Fin 8) (q : Fin 352) (k : Fin 1024) :
    iblk m c 1 t (ix3 p q k) = (V m c main_v18 : Vec Ideal S8x352x1024 .bf16) (ix3 p q k) := by
  have := lt32 t
  blk_ext [iblk, idx t]

theorem blk_a (t : Fin cfg0.N) (p : Fin 256) (q : Fin 2816) :
    iblk m c 2 t (ix2 p q) = (V m c main_v13 : Vec Ideal S8192x2816 .bf16) (ix2 (row t p) q) := by
  have := lt32 t
  blk_ext [iblk, idx t]

theorem blk_b (t : Fin cfg0.N) (p : Fin 256) (q : Fin 2816) :
    iblk m c 3 t (ix2 p q) = (V m c main_v15 : Vec Ideal S8192x2816 .bf16) (ix2 (row t p) q) := by
  have := lt32 t
  blk_ext [iblk, idx t]

/-- What the call leaves, entry by entry. -/
abbrev da : FVec Ideal S8192x2816 .bf16 := fun j =>
  prod (W m c) (D m c) j * (B m c j * (sg (A m c j) * (1 + A m c j * (1 - sg (A m c j)))))
abbrev db : FVec Ideal S8192x2816 .bf16 := fun j => prod (W m c) (D m c) j * (A m c j * sg (A m c j))

theorem point_a (t : Fin cfg0.N) (p : Fin 256) (q : Fin 2816) :
    k0_pay2 (iblk m c 0 t) (iblk m c 1 t) (iblk m c 2 t) (ix2 p q) = da m c (ix2 (row t p) q) := by
  rw [pay_a, blk_a, a_read]
  refine congrArg (· * _) (Finset.sum_congr rfl fun k _ => ?_)
  rw [blk_d, blk_w, d_read, w_read]
  rfl

theorem point_b (t : Fin cfg0.N) (p : Fin 256) (q : Fin 2816) :
    k0_pay3 (iblk m c 0 t) (iblk m c 1 t) (iblk m c 3 t) (ix2 p q) = db m c (ix2 (row t p) q) := by
  rw [pay_b, blk_b, b_read]
  refine congrArg (· * _) (Finset.sum_congr rfl fun k _ => ?_)
  rw [blk_d, blk_w, d_read, w_read]
  rfl

theorem place_a (t : Fin cfg0.N) (y : ((cfg0.win 4).xblock (cfg0.grid.coords t)).Idx) :
    (win0_4.blk t).view.emb y = ix2 (row t (y 0)) (y 1) := by
  have := lt32 t
  blk_ext [idx t]

theorem place_b (t : Fin cfg0.N) (y : ((cfg0.win 5).xblock (cfg0.grid.coords t)).Idx) :
    (win0_5.blk t).view.emb y = ix2 (row t (y 0)) (y 1) := by
  have := lt32 t
  blk_ext [idx t]

theorem final_a : (dats m 0 c).arrAt 4 (cfgs 0).N = da m c := by
  refine (dats m 0 c).arrAt_eq_of_covers 4 _ (by decide +kernel) fun t _ y => ?_
  blk_simp
  rw [after0_4]
  frame_out
  rw [place_a]
  exact (congrArg (k0_pay2 (iblk m c 0 t) (iblk m c 1 t) (iblk m c 2 t)) (ix2_eta y).symm).trans (point_a m c t (y 0) (y 1))

theorem final_b : (dats m 0 c).arrAt 5 (cfgs 0).N = db m c := by
  refine (dats m 0 c).arrAt_eq_of_covers 5 _ (by decide +kernel) fun t _ y => ?_
  blk_simp
  rw [after0_5]
  frame_out
  rw [place_b]
  exact (congrArg (k0_pay3 (iblk m c 0 t) (iblk m c 1 t) (iblk m c 3 t)) (ix2_eta y).symm).trans (point_b m c t (y 0) (y 1))

/-- What the reference leaves, entry by entry. -/
abbrev ra : FVec Ideal S8192x2816 .bf16 := fun j =>
  prod (W m c) (D m c) j * B m c j * sg (A m c j)
    + A m c j * (prod (W m c) (D m c) j * B m c j) * (sg (A m c j) * (1 - sg (A m c j)))
abbrev rb : FVec Ideal S8192x2816 .bf16 := fun j => A m c j * sg (A m c j) * prod (W m c) (D m c) j

theorem sg_top : sg ⊤ = 1 := by
  rw [sg, EReal.neg_top, Ideal.exp_bot, add_zero, show (1 : EReal) = ((1 : ℝ) : EReal) from rfl, Ideal.div_coe one_ne_zero]
  norm_num

theorem sg_bot : sg ⊥ = 0 := by
  rw [sg, EReal.neg_bot, Ideal.exp_top, EReal.add_top_of_ne_bot (by decide)]
  simp [Ideal.div]

theorem sg_real (a : ℝ) : ∃ s : ℝ, sg (a : EReal) = (s : EReal) := by
  have h : (1 + Real.exp (-a)) ≠ 0 := by have := Real.exp_pos (-a); positivity
  refine ⟨1 / (1 + Real.exp (-a)), ?_⟩
  rw [sg, ← EReal.coe_neg, Ideal.exp_coe, show (1 : EReal) = ((1 : ℝ) : EReal) from rfl, ← EReal.coe_add, Ideal.div_coe h, ← EReal.coe_mul, one_mul]

/-- The two ways of writing the gate's derivative agree where the gradient and `b` are real, whatever `a` is. -/
theorem gate_eq (a : EReal) (p b : ℝ) :
    (p : EReal) * (b * (sg a * (1 + a * (1 - sg a)))) = p * b * sg a + a * (p * b) * (sg a * (1 - sg a)) := by
  induction a with
  | bot => rw [sg_bot]; simp
  | top =>
    rw [sg_top, show (1 : EReal) - 1 = 0 from by rw [show (1 : EReal) = ((1 : ℝ) : EReal) from rfl, ← EReal.coe_sub, sub_self]; rfl]
    simp
  | coe a =>
    obtain ⟨s, hs⟩ := sg_real a
    rw [hs, show (1 : EReal) = ((1 : ℝ) : EReal) from rfl]
    norm_cast
    ring

theorem ra_eq (hB : ∀ i, ∃ y : ℝ, B m c i = (y : EReal)) (hW : ∀ i, ∃ y : ℝ, W m c i = (y : EReal))
    (hD : ∀ i, ∃ y : ℝ, D m c i = (y : EReal)) (j : S8192x2816.Idx) : ra m c j = da m c j := by
  obtain ⟨b, hb⟩ := hB j
  choose w hw using hW
  choose d hd using hD
  have hp : prod (W m c) (D m c) j = ((∑ k : Fin 1024, d (ix2 (j 0) k) * w (ix2 (j 1) k) : ℝ) : EReal) := by
    rw [← Cert.Consts.coe_sum]
    exact Finset.sum_congr rfl fun k _ => by rw [hd, hw, EReal.coe_mul]
  show prod (W m c) (D m c) j * B m c j * sg (A m c j)
    + A m c j * (prod (W m c) (D m c) j * B m c j) * (sg (A m c j) * (1 - sg (A m c j))) = prod (W m c) (D m c) j * (B m c j * (sg (A m c j) * (1 + A m c j * (1 - sg (A m c j)))))
  rw [hp, hb]
  exact (gate_eq _ _ _).symm

end Cert.GateIdeal.Product

namespace Cert.Proof.Gate

theorem kernel : Cert.quiescent_Gate := fun m ρ _ => Cert.Gate.Gen.frame m ρ

theorem kernel_ideal : Cert.quiescent_GateIdeal := fun m ρ _ => Cert.GateIdeal.Gen.frame m ρ

theorem kernel_ideal_finite : Cert.quiescent_GateIdeal_pre_finite2 := fun m ρ _ => Cert.GateIdeal.Gen.frame m ρ

theorem reference_ideal : Cert.quiescent_GateRefIdeal := fun m ρ _ =>
  (θ_run Cert.GateRefIdeal.defs _ _).mono (fun r h => ⟨fun c => (h c).2.2,
      Idealize.ShloMosaic.sem_eq_zero_of_no_sems (by decide) r.2⟩)
    (Cert.GateRefIdeal.Value.run (F := Ideal) m ρ)

theorem reference_ideal_finite : Cert.quiescent_GateRefIdeal_pre_finite2 := fun m ρ _ => reference_ideal m ρ trivial

/-- The precondition says the entries of `b`, of the weight and of the gradient are real numbers. -/
theorem all_real (a b : FVec Ideal Cert.Pre_finite2.S8192x2816 .f32) (w : FVec Ideal Cert.Pre_finite2.S2816x1024 .f32) (d : FVec Ideal Cert.Pre_finite2.S8192x1024 .f32)
    (h : Cert.Pre_finite2.fn (F := Ideal) a b w d = fun _ => 1#1) :
    (∀ i, ∃ y : ℝ, b i = (y : EReal)) ∧ (∀ i, ∃ y : ℝ, w i = (y : EReal)) ∧ (∀ i, ∃ y : ℝ, d i = (y : EReal)) := by
  have h0 := congrFun h ix0
  dsimp only [Cert.Pre_finite2.fn] at h0
  obtain ⟨h1, hd⟩ := IntOp.andi_eq_one.1 h0
  obtain ⟨hb, hw⟩ := IntOp.andi_eq_one.1 h1
  have hs : Subsingleton Cert.Pre_finite2.S_.Idx := ⟨fun a b => funext fun x => x.elim0⟩
  exact ⟨fun i => Cert.Finite.real_of_abs _ (Host.reduce_andi_all _ _ _ _ _ hb i),
    fun i => Cert.Finite.real_of_abs _ (Host.reduce_andi_all _ _ _ _ _ hw i), fun i => Cert.Finite.real_of_abs _ (Host.reduce_andi_all _ _ _ _ _ hd i)⟩

theorem algebraic : Cert.algebraic_GateIdeal_GateRefIdeal_pre_finite2 := by
  pair_intro
  · run_from Cert.GateIdeal.Gen.run_main m g
  · hlo_run
    · rw [Cert.GateIdeal.Product.final_a]
      simp only [StableHlo.TRef.toBuf, StableHlo.TRef.ofBuf, cast_cast, cast_eq]
      funext j
      refine Eq.trans (b := Cert.GateIdeal.Product.ra m c j) ?_ ?_
      · pointwise
      · obtain ⟨hB, hW, hD⟩ := all_real _ _ _ _ (hpre c)
        exact Cert.GateIdeal.Product.ra_eq m c hB hW hD j
    · rw [Cert.GateIdeal.Product.final_b]
      simp only [StableHlo.TRef.toBuf, StableHlo.TRef.ofBuf, cast_cast, cast_eq]
      funext j
      refine Eq.trans (b := Cert.GateIdeal.Product.rb m c j) ?_ (mul_comm _ _)
      pointwise

end Cert.Proof.Gate

end
-- ==== Proof.Weight.lean ====
/- The gradient of a projection's weight: the blocked product with its running sum in scratch is one product. -/
module

public import proofs.«01_k».proof.Defs
public import proofs.«01_k».proof.Proof.Gen.Weight.Frame
public import proofs.«01_k».proof.Proof.Gen.WeightIdeal.Frame
public import proofs.«01_k».proof.Proof.Gen.WeightRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WeightIdeal.Product

open Cert.WeightIdeal Cert.WeightIdeal.Gen

variable (m : (ℓ : Loc nD τ sig) → Buf (Elt Ideal) ℓ)

/-- The product over all rows, as the reference writes it. -/
abbrev whole (X : FVec Ideal S8192x2816 .f32) (D : FVec Ideal S8192x1024 .f32) : FVec Ideal S2816x1024 .bf16 :=
  truncf .bf16 (transpose Cert.WeightRefIdeal.S2816x1024 [1, 0]
    (Host.dotGeneral Cert.WeightRefIdeal.dot_S8192x1024_S8192x2816_S1024x2816_0_0_1_1_n_n none D X)
    Cert.WeightRefIdeal.Gen.transposes_S1024x2816_S2816x1024_1_0) Cert.WeightRefIdeal.Gen.bitsLt_bf16_f32

theorem fill (j) : k0_pay1 (F := Ideal) j = 0 := by pointwise [k0_pay1]

theorem added (acc : Vec Ideal S1408x1024 .f32) (x : Vec Ideal S1024x1408 .bf16) (d : Vec Ideal S1024x1024 .bf16) (j) :
    k0_pay2 acc x d j = acc j + ∑ k : Fin 1024, x (ix2 k (j 0)) * d (ix2 k (j 1)) := by
  pointwise [k0_pay2]

theorem whole_at (X : FVec Ideal S8192x2816 .f32) (D : FVec Ideal S8192x1024 .f32) (j) :
    whole X D j = ∑ k : Fin 8192, X (ix2 k (j 0)) * D (ix2 k (j 1)) := by
  pointwise [whole]
  exact Finset.sum_congr rfl fun k _ => mul_comm _ _

theorem idx : ∀ t : Fin cfg0.N, win0_0.index t = ![t.val % 8, t.val / 8] ∧ win0_1.index t = ![t.val % 8, 0] ∧ win0_2.index t = ![t.val / 8, 0]
    ∧ t.val / 8 < 2 :=
  (by decide +kernel : ∀ t : Fin grid0.N, _)

theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  have h1 : t.val % 8 = 7 := (flush0_2 t).mp hf
  have h0 : ¬t.val % 8 = 0 := by omega
  have hs : (outsAt0 m c t.val t.isLt).1 y = (outsAt0 m c t.val t.isLt).2 y := by
    rw [outsAt0_C m c t h0 h1]; frame_out
    pointwise [k0_pay3]
  blk_simp
  rw [after0_2, hs, Pipeline.eq_sum_fin_of_reset_step_apply_of_flush (fun n h => (outsAt0 m c n h).2) 8 (fun _ => 0) _
    (fun t h j => by rw [outsAt0_A m c t h (by omega)]; frame_out; rw [added, fill])
    (fun t h j => by
      by_cases h7 : t.val % 8 = 7
      · rw [outsAt0_C m c t h h7]; frame_out; rw [added, read_unread_whole]
      · rw [outsAt0_B m c t h h7]; frame_out; rw [added, read_unread_whole])
    t h1 _, zero_add, whole_at]
  refine Fin.sum_mul_add_congr fun s k hl => ?_
  blk_point [iblk, V, idx t, idx ⟨_, Pipeline.run_point_lt_of_flush t h1 s⟩]

end Cert.WeightIdeal.Product

namespace Cert.Proof.Weight

theorem kernel : Cert.quiescent_Weight := fun m ρ _ => Cert.Weight.Gen.frame m ρ

theorem kernel_ideal : Cert.quiescent_WeightIdeal := fun m ρ _ => Cert.WeightIdeal.Gen.frame m ρ

theorem reference_ideal : Cert.quiescent_WeightRefIdeal := fun m ρ _ =>
  (θ_run Cert.WeightRefIdeal.defs _ _).mono (fun r h => ⟨fun c => (h c).2,
      Idealize.ShloMosaic.sem_eq_zero_of_no_sems (by decide) r.2⟩)
    (Cert.WeightRefIdeal.Value.run (F := Ideal) m ρ)

theorem algebraic : Cert.algebraic_WeightIdeal_WeightRefIdeal := by
  pair_intro
  · run_from Cert.WeightIdeal.Gen.run_main m g
  · hlo_run
    exact (Cert.WeightIdeal.Product.final m c).symm

end Cert.Proof.Weight

end
-- ==== Proof.NormMath.lean ====
/- The gradient through a norm, over the extended reals. -/
module

public import proofs.«01_k».proof.Proof.Consts
public import Idealize.ShloMosaic.Lib.Claim

@[expose] public section

noncomputable section

namespace Cert.NormMath

open Idealize.ShloMosaic Cert.Consts

/-- The small number under the root. -/
def eps : ℝ := 8796093 / 2 ^ 43

theorem eps_pos : 0 < eps := by unfold eps; positivity

theorem ofBits_eps : Ideal.ofBits .f32 0x358637BD#32 = ((eps : ℝ) : EReal) := by
  rw [eps]; simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_mhalf : Ideal.ofBits .f32 0xBF000000#32 = ((-(1 / 2) : ℝ) : EReal) := by
  simp [Ideal.ofBits, Ideal.ieee, -EReal.coe_mul]; norm_num

abbrev Row := Fin 1024 → EReal

/-- The mean of squares of a row, plus the small number. -/
def ms (v : Row) : EReal := Ideal.div (∑ k, v k * v k) (Ideal.ofBits .f32 0x44800000#32) + Ideal.ofBits .f32 0x358637BD#32

/-- One over its root. -/
def rs (v : Row) : EReal := Ideal.rsqrt (ms v)

/-- The gradient through `v ↦ v / root`, as one formula. -/
def bwd (v d : Row) (k : Fin 1024) : EReal :=
  rs v * (d k - v k * rs v * Ideal.div (∑ l, d l * (v l * rs v)) (Ideal.ofBits .f32 0x44800000#32))

/-- The factor of the term that comes through the root. -/
def cof (v d : Row) : EReal :=
  Ideal.div ((∑ l, v l * d l) * (Ideal.ofBits .f32 0xBF000000#32 * Ideal.div (rs v) (ms v))) (Ideal.ofBits .f32 0x44800000#32)

theorem sq_nonneg (x : EReal) : 0 ≤ x * x := by
  induction x with
  | bot => simp
  | top => simp
  | coe x => exact_mod_cast mul_self_nonneg x

/-- A row of real numbers has a positive root; any other row has one over its root zero. -/
theorem cases (v : Row) : (∃ (f : Fin 1024 → ℝ) (q r : ℝ), (∀ k, v k = (f k : EReal)) ∧ 0 < q ∧ 0 < r ∧ ms v = (q : EReal) ∧ rs v = (r : EReal) ∧ r * r = q⁻¹)
    ∨ (ms v = ⊤ ∧ rs v = 0) := by
  by_cases h : ∀ k, ∃ y : ℝ, v k = (y : EReal)
  · left
    choose f hf using h
    have hm : ms v = (((∑ k, f k * f k) / 1024 + eps : ℝ) : EReal) := by
      simp only [ms, hf, ← EReal.coe_mul]
      rw [coe_sum, ofBits_1024, ofBits_eps, Ideal.div_coe (by norm_num), ← EReal.coe_mul, ← EReal.coe_add, mul_one_div]
    have hq : 0 < (∑ k, f k * f k) / 1024 + eps :=
      add_pos_of_nonneg_of_pos (div_nonneg (Finset.sum_nonneg fun k _ => mul_self_nonneg (f k)) (by norm_num)) eps_pos
    refine ⟨f, _, (Real.sqrt ((∑ k, f k * f k) / 1024 + eps))⁻¹, hf, hq, inv_pos.2 (Real.sqrt_pos.2 hq), hm, ?_, ?_⟩
    · rw [rs, hm, Ideal.rsqrt_coe, if_neg hq.le.not_gt, if_neg hq.ne']
    · rw [← mul_inv, Real.mul_self_sqrt hq.le]
  · right
    push Not at h
    obtain ⟨k, hk⟩ := h
    have ht : v k * v k = ⊤ := by
      generalize v k = x at hk
      induction x with
      | bot => simp
      | top => simp
      | coe x => exact absurd rfl (hk x)
    have hs : (∑ l, v l * v l) = ⊤ :=
      top_le_iff.1 (ht ▸ Finset.single_le_sum (f := fun l => v l * v l) (fun l _ => sq_nonneg (v l)) (Finset.mem_univ k))
    have hm : ms v = ⊤ := by
      rw [ms, hs, ofBits_1024, ofBits_eps, Ideal.div_coe (by norm_num), EReal.top_mul_coe_of_pos (by norm_num)]
      rfl
    exact ⟨hm, by rw [rs, hm]; rfl⟩

/-- A positive number comes out of a sum. -/
theorem sum_mul (f : Fin 1024 → EReal) {r : ℝ} (hr : 0 < r) : ∑ l, f l * (r : EReal) = (∑ l, f l) * (r : EReal) := by
  have h (s : Finset (Fin 1024)) : ∑ l ∈ s, f l * (r : EReal) = (∑ l ∈ s, f l) * (r : EReal) := by
    induction s using Finset.induction_on with
    | empty => simp
    | insert a s ha ih =>
      rw [Finset.sum_insert ha, Finset.sum_insert ha, ih, EReal.right_distrib_of_nonneg_of_ne_top (by exact_mod_cast hr.le) (EReal.coe_ne_top r)]
  exact h Finset.univ

/-- Twice a number times one half of a factor. -/
theorem twice (D : EReal) (a : ℝ) : D * (a : EReal) + D * (a : EReal) = D * ((a + a : ℝ) : EReal) := by
  induction D with
  | coe D => norm_cast; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The one formula, and the terms as the rule for products gives them. -/
theorem bwd_eq (v d : Row) (k : Fin 1024) : d k * rs v + (v k * cof v d + cof v d * v k) = bwd v d k := by
  rcases cases v with ⟨f, q, r, hf, hq, hr, hm, hs, hrq⟩ | ⟨hm, hs⟩
  · have e : ∑ l, d l * (v l * rs v) = (∑ l, v l * d l) * (r : EReal) := by
      rw [← sum_mul _ hr, hs]
      exact Finset.sum_congr rfl fun l _ => by rw [← mul_assoc, mul_comm (d l)]
    have h1 : cof v d * v k = (∑ l, v l * d l) * ((-(1 / 2) * (r * (1 / q)) * (1 / 1024) * f k : ℝ) : EReal) := by
      rw [cof, hs, hm, ofBits_mhalf, ofBits_1024, Ideal.div_coe hq.ne', Ideal.div_coe (by norm_num), hf]
      simp only [mul_assoc, EReal.coe_mul]
    have h2 : v k * rs v * Ideal.div (∑ l, d l * (v l * rs v)) (Ideal.ofBits .f32 0x44800000#32)
        = (∑ l, v l * d l) * ((r * (1 / 1024) * (f k * r) : ℝ) : EReal) := by
      rw [e, ofBits_1024, Ideal.div_coe (by norm_num), hs, hf, mul_comm]
      simp only [mul_assoc, EReal.coe_mul]
    have h3 (D : EReal) (b : ℝ) : (r : EReal) * -(D * (b : EReal)) = D * ((r * -b : ℝ) : EReal) := by
      rw [← mul_neg, ← EReal.coe_neg, mul_left_comm, ← EReal.coe_mul]
    rw [bwd, h2, mul_comm (v k) (cof v d), h1, twice, hs, sub_eq_add_neg,
      EReal.left_distrib_of_nonneg_of_ne_top (by exact_mod_cast hr.le) (EReal.coe_ne_top r), mul_comm (d k), h3]
    congr 3
    rw [one_div q, ← hrq]
    ring
  · have hc : cof v d = 0 := by
      rw [cof, hs, hm]
      simp [Ideal.div, ofBits_1024]
    rw [bwd, hc, hs]
    simp

/-- A call's inputs: the residual stream before the mixer, the mixer's result, the gradient coming in, the two norms' weights,
    and the gradient of the second norm's result. -/
structure Data where
  x : Fin 8192 → Row
  mix : Fin 8192 → Row
  dh2 : Fin 8192 → Row
  gm : Row
  gf : Row
  dhn : Fin 8192 → Row

namespace Data
variable (A : Data)

/-- The residual stream after the mixer. -/
def h (r : Fin 8192) : Row := fun k => A.x r k + A.mix r k * rs (A.mix r) * A.gm k
/-- Its gradient. -/
def dh1 (r : Fin 8192) : Row := fun k => A.dh2 r k + bwd (A.h r) (fun l => A.dhn r l * A.gf l) k
/-- The gradient of the mixer's result. -/
def dmix (r : Fin 8192) : Row := fun k => bwd (A.mix r) (fun l => A.dh1 r l * A.gm l) k
/-- The gradients of the two norms' weights. -/
def dgf : Row := fun k => ∑ r, A.dhn r k * (A.h r k * rs (A.h r))
def dgm : Row := fun k => ∑ r, A.dh1 r k * (A.mix r k * rs (A.mix r))

end Data

/-- The call's arguments. -/
structure Args where
  x : Fin 8192 → Row
  mix : Fin 8192 → Row
  gm : Row
  gf : Row
  wg : Fin 1024 → Fin 2816 → EReal
  wu : Fin 1024 → Fin 2816 → EReal
  dh2 : Fin 8192 → Row
  da : Fin 8192 → Fin 2816 → EReal
  db : Fin 8192 → Fin 2816 → EReal

/-- The two products give the gradient of the second norm's result. -/
def Args.data (A : Args) : Data :=
  { x := A.x, mix := A.mix, dh2 := A.dh2, gm := A.gm, gf := A.gf
    dhn := fun r k => (∑ j, A.da r j * A.wg k j) + ∑ j, A.db r j * A.wu k j }

end Cert.NormMath

end
-- ==== Proof.NormPay.lean ====
/- The gradient through the two norms: what the kernel's lines compute on a block of rows. -/
module

public import proofs.«01_k».proof.Proof.NormMath
public import proofs.«01_k».proof.Proof.Gen.NormIdeal.Skeleton
public import Idealize.ShloMosaic.Lib.Pipeline.ValueKit

@[expose] public section

set_option maxRecDepth 16384

noncomputable section

namespace Cert.NormIdeal.Norm

open Idealize.ShloMosaic Cert.NormIdeal Cert.NormIdeal.Gen Cert.NormMath

variable (v0 v6 : Vec Ideal S256x2816 .bf16) (v2 v8 : Vec Ideal S8x352x1024 .bf16) (v13 v25 v41 : Vec Ideal S256x1024 .f32)
  (v26 v52 : Vec Ideal S1x1024 .f32)

theorem dhn_at (p : Fin 256) (k : Fin 1024) : k0_pay5 v0 v2 v6 v8 (ix2 p k)
    = (∑ j : Fin 2816, v0 (ix2 p j) * v2 (ix3 ⟨j.val / 352, by omega⟩ ⟨j.val % 352, by omega⟩ k))
      + ∑ j : Fin 2816, v6 (ix2 p j) * v8 (ix3 ⟨j.val / 352, by omega⟩ ⟨j.val % 352, by omega⟩ k) := by
  pointwise [k0_pay5]

variable {v13 v25 v41 v26 v52} {dhn h dh2 mix : Fin 256 → Row} {gf gm : Row}
  (Hdhn : ∀ p k, k0_pay5 v0 v2 v6 v8 (ix2 p k) = dhn p k)
  (Hh : ∀ p k, v13 (ix2 p k) = h p k) (Hdh2 : ∀ p k, v25 (ix2 p k) = dh2 p k)
  (Hmix : ∀ p k, v41 (ix2 p k) = mix p k) (Hgf : ∀ k, v26 (ix2 0 k) = gf k)
  (Hgm : ∀ k, v52 (ix2 0 k) = gm k)

include Hh in
theorem root_at (p : Fin 256) : k0_pay7 v13 (ix2 p 0) = rs (h p) := by
  pointwise [k0_pay7, k0_pay6]
  simp only [Hh]
  rfl

include Hh in
theorem unit_at (p : Fin 256) (k : Fin 1024) : k0_pay8 v13 (ix2 p k) = h p k * rs (h p) := by
  pointwise [k0_pay8, k0_pay6]
  rw [Hh, root_at Hh]

include Hmix in
theorem root2_at (p : Fin 256) : k0_pay12 v41 (ix2 p 0) = rs (mix p) := by
  pointwise [k0_pay12]
  simp only [Hmix]
  rfl

include Hmix in
theorem unit2_at (p : Fin 256) (k : Fin 1024) : k0_pay13 v41 (ix2 p k) = mix p k * rs (mix p) := by
  pointwise [k0_pay13]
  rw [Hmix, root2_at Hmix]

include Hdhn Hgf in
theorem scaled_at (p : Fin 256) (k : Fin 1024) : k0_pay9 v0 v2 v6 v8 v26 (ix2 p k) = dhn p k * gf k := by
  pointwise [k0_pay9]
  rw [Hdhn, Hgf]

include Hdhn Hh Hgf in
theorem mean1_at (p : Fin 256) : k0_pay10 v0 v2 v6 v8 v13 v26 (ix2 p 0)
    = Ideal.div (∑ l, dhn p l * gf l * (h p l * rs (h p))) (Ideal.ofBits .f32 0x44800000#32) := by
  pointwise [k0_pay10]
  simp only [scaled_at v0 v6 v2 v8 Hdhn Hgf, unit_at Hh]

/-- The gradient of the residual stream, row by row of the block. -/
abbrev dh (dhn h dh2 : Fin 256 → Row) (gf : Row) (p : Fin 256) : Row := fun k => dh2 p k + bwd (h p) (fun l => dhn p l * gf l) k

include Hdhn Hh Hdh2 Hgf in
theorem dh1_at (p : Fin 256) (k : Fin 1024) :
    k0_pay11 (k0_pay7 v13) (k0_pay8 v13) v25 (k0_pay9 v0 v2 v6 v8 v26) (k0_pay10 v0 v2 v6 v8 v13 v26) (ix2 p k)
      = dh dhn h dh2 gf p k := by
  pointwise [k0_pay11]
  rw [Hdh2, root_at Hh, unit_at Hh, scaled_at v0 v6 v2 v8 Hdhn Hgf, mean1_at v0 v6 v2 v8 Hdhn Hh Hgf, dh, bwd]

/-- The values read by the last lines, over whatever the first gradient is. -/
theorem dmix_at {d : Fin 256 → Row} (u : FVec Ideal S256x1 .f32) (n s : FVec Ideal S256x1024 .f32) (w : FVec Ideal S256x1 .f32)
    (Hd : ∀ p k, k0_pay11 u n v25 s w (ix2 p k) = d p k)
    (Hmix : ∀ p k, v41 (ix2 p k) = mix p k) (Hgm : ∀ k, v52 (ix2 0 k) = gm k) (p : Fin 256) (k : Fin 1024) :
    k0_pay16 u n v25 s w v41 v52 (ix2 p k) = bwd (mix p) (fun l => d p l * gm l) k := by
  pointwise [k0_pay16]
  simp only [Hd, Hgm, unit2_at Hmix, root2_at Hmix]
  rfl

include Hdhn Hh in
theorem dgf_at (k : Fin 1024) : k0_pay14 (k0_pay5 v0 v2 v6 v8) (k0_pay8 v13) (ix2 0 k)
    = ∑ p : Fin 256, dhn p k * (h p k * rs (h p)) := by
  pointwise [k0_pay14]
  refine Finset.sum_congr rfl fun p _ => ?_
  rw [Hdhn, unit_at Hh]

theorem dgm_at {d : Fin 256 → Row} (u : FVec Ideal S256x1 .f32) (n s : FVec Ideal S256x1024 .f32) (w : FVec Ideal S256x1 .f32)
    (Hd : ∀ p k, k0_pay11 u n v25 s w (ix2 p k) = d p k)
    (Hmix : ∀ p k, v41 (ix2 p k) = mix p k) (k : Fin 1024) :
    k0_pay15 u n v25 s w v41 (ix2 0 k) = ∑ p : Fin 256, d p k * (mix p k * rs (mix p)) := by
  pointwise [k0_pay15]
  refine Finset.sum_congr rfl fun p _ => ?_
  rw [Hd, unit2_at Hmix]

theorem add3_at (a : FVec Ideal S1x1024 .f32) (b : Vec Ideal S1x1024 .f32) (j) : k0_pay3 a b j = b j + a j := by
  pointwise [k0_pay3]

theorem add4_at (a : FVec Ideal S1x1024 .f32) (b : Vec Ideal S1x1024 .f32) (j) : k0_pay4 a b j = b j + a j := by
  pointwise [k0_pay4]

theorem zero1_at (j) : k0_pay1 (F := Ideal) j = 0 := by pointwise [k0_pay1]

theorem zero2_at (j) : k0_pay2 (F := Ideal) j = 0 := by pointwise [k0_pay2]

end Cert.NormIdeal.Norm

end
-- ==== Proof.NormRef.lean ====
/- The gradient through the two norms: what the reference computes. -/
module

public import proofs.«01_k».proof.Proof.NormMath
public import proofs.«01_k».proof.Proof.Gen.NormRefIdeal.Run
public import Idealize.ShloMosaic.Lib.Pipeline.ValueKit

@[expose] public section

set_option maxRecDepth 16384

noncomputable section

namespace Cert.NormRef

open Idealize.ShloMosaic Idealize.ShloMosaic.TcCoe Cert.NormRefIdeal Cert.NormRefIdeal.Gen
open Cert.Consts Cert.NormMath

abbrev Arr := FVec Ideal S8192x1024 .f32
abbrev Col := FVec Ideal S8192x1 .f32

/-- A weight along the lanes, for every row. -/
def row (g : FVec Ideal S1024 .f32) : Arr :=
  broadcastInDim S8192x1024 ![0, 1] bcast_S1x1024_S8192x1024_0_1 (broadcastInDim S1x1024 ![1] bcast_S1024_S1x1024_1 g)

/-- A number for each row, along the row. -/
def lane (z : Col) : Arr := broadcastInDim S8192x1024 ![0, 1] bcast_S8192x1_S8192x1024_0_1 z
def spread (z : FVec Ideal S8192 .f32) : Arr := broadcastInDim S8192x1024 ![0] bcast_S8192_S8192x1024_0 z

/-- One number in every row. -/
def num (b : BitVec 32) : Col := broadcastInDim S8192x1 ![] bcast_S_S8192x1 (constant S_ .f32 b)

/-- The sum of each row. -/
def total (v : Arr) : FVec Ideal S8192 .f32 :=
  Host.reduceAdd v (constant S_ .f32 0x00000000#32) reducesTo_S8192x1024_S8192_d1 h_S_

/-- The sum of each column. -/
def down (v : Arr) : FVec Ideal S1x1024 .f32 :=
  broadcastInDim S1x1024 ![1] bcast_S1024_S1x1024_1
    (Host.reduceAdd (shapeCast _ (Host.reduceAdd v (constant S_ .f32 0x00000000#32) reducesTo_S8192x1024_S1024_d0 h_S_)
      shapeCasts_S1024_S1x1024) (constant S_ .f32 0x00000000#32) reducesTo_S1x1024_S1024_d0 h_S_)

def msF (v : Arr) : Col :=
  addf (Host.divf (broadcastInDim S8192x1 ![0] bcast_S8192_S8192x1_0 (total (mulf v v))) (num 0x44800000#32)) (num 0x358637BD#32)

def rsF (v : Arr) : Col := Host.rsqrt (msF v)

def cofF (v d : Arr) : FVec Ideal S8192 .f32 :=
  Host.reduceAdd (Host.divf (mulf (shapeCast _ (total (mulf v d)) shapeCasts_S8192_S8192x1)
      (mulf (num 0xBF000000#32) (Host.divf (rsF v) (msF v)))) (num 0x44800000#32))
    (constant S_ .f32 0x00000000#32) reducesTo_S8192x1_S8192_d1 h_S_

def hF (x mix : Arr) (g : FVec Ideal S1024 .f32) : Arr := addf x (mulf (mulf mix (lane (rsF mix))) (row g))

def dhnF (wg wu : FVec Ideal S1024x2816 .f32) (da db : FVec Ideal S8192x2816 .f32) : Arr :=
  addf (Host.dotGeneral dot_S8192x2816_S1024x2816_S8192x1024_1_1_0_0_n_n none db wu)
    (Host.dotGeneral dot_S8192x2816_S1024x2816_S8192x1024_1_1_0_0_n_n none da wg)

def dh1F (h d dh2 : Arr) : Arr :=
  addf (addf (addf dh2 (mulf d (lane (rsF h)))) (mulf h (spread (cofF h d)))) (mulf (spread (cofF h d)) h)

def dmixF (mix d : Arr) : Arr :=
  addf (addf (mulf d (lane (rsF mix))) (mulf mix (spread (cofF mix d)))) (mulf (spread (cofF mix d)) mix)

section
variable (m : (ℓ : Loc nD τ sig) → Buf (Elt Ideal) ℓ) (c : Dev nD)

abbrev ax : Arr := m ((c.tc : Thread nD τ).loc main_arg0)
abbrev amix : Arr := m ((c.tc : Thread nD τ).loc main_arg1)
abbrev agm : FVec Ideal S1024 .f32 := m ((c.tc : Thread nD τ).loc main_arg2)
abbrev agf : FVec Ideal S1024 .f32 := m ((c.tc : Thread nD τ).loc main_arg3)
abbrev awg : FVec Ideal S1024x2816 .f32 := m ((c.tc : Thread nD τ).loc main_arg4)
abbrev awu : FVec Ideal S1024x2816 .f32 := m ((c.tc : Thread nD τ).loc main_arg5)
abbrev adh2 : Arr := m ((c.tc : Thread nD τ).loc main_arg6)
abbrev ada : FVec Ideal S8192x2816 .f32 := m ((c.tc : Thread nD τ).loc main_arg7)
abbrev adb : FVec Ideal S8192x2816 .f32 := m ((c.tc : Thread nD τ).loc main_arg8)

abbrev rh : Arr := hF (ax m c) (amix m c) (agm m c)
abbrev rdhn : Arr := dhnF (awg m c) (awu m c) (ada m c) (adb m c)
abbrev rdh1 : Arr := dh1F (rh m c) (mulf (rdhn m c) (row (agf m c))) (adh2 m c)

theorem dh1_read : Value.res_main_v58 m c = rdh1 m c := rfl

theorem dmix_read : Value.res_main_v80 m c
    = truncf .bf16 (dmixF (amix m c) (mulf (shapeCast S8192x1024 (rdh1 m c) shapeCasts_S8192x1024_S8192x1024) (row (agm m c)))) bitsLt_bf16_f32 := rfl

theorem dgm_read : Value.res_main_v82 m c
    = down (mulf (mulf (amix m c) (lane (rsF (amix m c)))) (shapeCast S8192x1024 (rdh1 m c) shapeCasts_S8192x1024_S8192x1024)) := rfl

end

/-- An array holding the rows. -/
def Holds (a : Arr) (f : Fin 8192 → Row) : Prop := ∀ r k, a (ix2 r k) = f r k

variable {v d : Arr} {f e : Fin 8192 → Row} (Hv : Holds v f) (Hd : Holds d e)

include Hv in
theorem ms_val (r : Fin 8192) : msF v (ix2 r 0) = ms (f r) := by
  pointwise [msF, num, total]
  simp only [Hv _ _]
  rfl

include Hv in
theorem rs_val (r : Fin 8192) : rsF v (ix2 r 0) = rs (f r) := by
  pointwise [rsF]
  rw [ms_val Hv]
  rfl

include Hv Hd in
theorem cof_val (r : Fin 8192) : cofF v d (ix1 r) = cof (f r) (e r) := by
  pointwise [cofF, num, total]
  simp only [Hv _ _, Hd _ _]
  rw [Fin.sum_univ_one]
  erw [rs_val Hv, ms_val Hv]
  rfl

include Hv in
theorem lane_val (r : Fin 8192) (k : Fin 1024) : lane (rsF v) (ix2 r k) = rs (f r) := by
  pointwise [lane]
  exact rs_val Hv r

include Hv Hd in
theorem spread_val (r : Fin 8192) (k : Fin 1024) : spread (cofF v d) (ix2 r k) = cof (f r) (e r) := by
  pointwise [spread]
  exact cof_val Hv Hd r

theorem row_val {g : FVec Ideal S1024 .f32} {w : Row} (hg : ∀ k, g (ix1 k) = w k) (r : Fin 8192) (k : Fin 1024) :
    row g (ix2 r k) = w k := by
  pointwise [row]
  exact hg k

include Hv Hd in
theorem dh1_val {a : Arr} {b : Fin 8192 → Row} (Ha : Holds a b) : Holds (dh1F v d a) fun r k => b r k + bwd (f r) (e r) k := by
  intro r k
  pointwise [dh1F]
  rw [Ha, Hv, Hd, lane_val Hv, spread_val Hv Hd, ← bwd_eq, add_assoc, add_assoc]

include Hv Hd in
theorem dmix_val : Holds (dmixF v d) fun r k => bwd (f r) (e r) k := by
  intro r k
  pointwise [dmixF]
  rw [Hv, Hd, lane_val Hv, spread_val Hv Hd, ← bwd_eq, add_assoc]

theorem down_val (a : Arr) (k : Fin 1024) : down a (ix2 0 k) = ∑ r : Fin 8192, a (ix2 r k) := by
  pointwise [down]
  exact Fin.sum_univ_one _

theorem same {a : Arr} {f : Fin 8192 → Row} (H : Holds a f) : Holds (shapeCast S8192x1024 a shapeCasts_S8192x1024_S8192x1024) f := by
  intro r k
  pointwise
  exact H r k

theorem unit_val {v : Arr} {f : Fin 8192 → Row} (Hv : Holds v f) : Holds (mulf v (lane (rsF v))) fun r k => f r k * rs (f r) := by
  intro r k
  pointwise
  rw [Hv, lane_val Hv]

theorem pair_val {a b : Arr} {f e : Fin 8192 → Row} (Ha : Holds a f) (Hb : Holds b e) (k : Fin 1024) :
    down (mulf a b) (ix2 0 k) = ∑ r, e r k * f r k := by
  rw [down_val]
  refine Finset.sum_congr rfl fun r _ => ?_
  pointwise
  rw [Ha, Hb, mul_comm]

/-- The nine arguments hold the rows. -/
structure Given (x mix : Arr) (gm gf : FVec Ideal S1024 .f32) (wg wu : FVec Ideal S1024x2816 .f32) (dh2 : Arr)
    (da db : FVec Ideal S8192x2816 .f32) (A : Args) : Prop where
  x : Holds x A.x
  mix : Holds mix A.mix
  gm : ∀ k, gm (ix1 k) = A.gm k
  gf : ∀ k, gf (ix1 k) = A.gf k
  wg : ∀ k j, wg (ix2 k j) = A.wg k j
  wu : ∀ k j, wu (ix2 k j) = A.wu k j
  dh2 : Holds dh2 A.dh2
  da : ∀ r j, da (ix2 r j) = A.da r j
  db : ∀ r j, db (ix2 r j) = A.db r j

section
variable {x mix dh2 : Arr} {gm gf : FVec Ideal S1024 .f32} {wg wu : FVec Ideal S1024x2816 .f32} {da db : FVec Ideal S8192x2816 .f32}
  {A : Args} (G : Given x mix gm gf wg wu dh2 da db A)

include G

theorem h_val : Holds (hF x mix gm) A.data.h := by
  intro r k
  pointwise [hF]
  rw [G.x, G.mix, lane_val G.mix, row_val G.gm]
  rfl

theorem dhn_val : Holds (dhnF wg wu da db) A.data.dhn := by
  intro r k
  pointwise [dhnF]
  simp only [G.da, G.db, G.wg, G.wu]
  rw [add_comm]
  rfl

theorem scaled_val : Holds (mulf (dhnF wg wu da db) (row gf)) fun r k => A.data.dhn r k * A.gf k := by
  intro r k
  pointwise
  rw [dhn_val G, row_val G.gf]

theorem first_val : Holds (dh1F (hF x mix gm) (mulf (dhnF wg wu da db) (row gf)) dh2) A.data.dh1 :=
  dh1_val (h_val G) (scaled_val G) G.dh2

abbrev first (x mix dh2 : Arr) (gm gf : FVec Ideal S1024 .f32) (wg wu : FVec Ideal S1024x2816 .f32) (da db : FVec Ideal S8192x2816 .f32) : Arr :=
  dh1F (hF x mix gm) (mulf (dhnF wg wu da db) (row gf)) dh2

theorem second_val : Holds (truncf .bf16 (dmixF mix (mulf (shapeCast S8192x1024 (first x mix dh2 gm gf wg wu da db) shapeCasts_S8192x1024_S8192x1024) (row gm))) bitsLt_bf16_f32)
    A.data.dmix := by
  intro r k
  refine (dmix_val (e := fun r k => A.data.dh1 r k * A.gm k) G.mix ?_) r k
  intro r k
  pointwise
  rw [show first x mix dh2 gm gf wg wu da db (ix2 r k) = _ from first_val G r k, row_val G.gm]

theorem third_val (k : Fin 1024) :
    down (mulf (mulf (hF x mix gm) (lane (rsF (hF x mix gm)))) (dhnF wg wu da db)) (ix2 0 k) = A.data.dgf k :=
  pair_val (unit_val (h_val G)) (dhn_val G) k

theorem fourth_val (k : Fin 1024) :
    down (mulf (mulf mix (lane (rsF mix))) (shapeCast S8192x1024 (first x mix dh2 gm gf wg wu da db) shapeCasts_S8192x1024_S8192x1024)) (ix2 0 k)
      = A.data.dgm k :=
  pair_val (unit_val G.mix) (same (first_val G)) k

end

end Cert.NormRef

end
-- ==== Proof.Norm.lean ====
/- The gradient through the two norms: the call's four results are the reference's. -/
module

public import proofs.«01_k».proof.Defs
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.NormPay
public import proofs.«01_k».proof.Proof.NormRef
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.Affine

@[expose] public section

set_option maxRecDepth 16384

noncomputable section

open Idealize.ShloMosaic Idealize.ShloMosaic.TcCoe Idealize.SL.Sem
open Idealize.ShloMosaic.Pipeline (Dat)

namespace Cert.NormIdeal.Norm

open Cert.NormIdeal Cert.NormIdeal.Gen Cert.NormMath

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0, 0] ∧ win0_8.index t = ![0, 0, 0] ∧ win0_9.index t = ![t.val, 0] ∧ win0_10.index t = ![t.val, 0]
    ∧ win0_11.index t = ![0, 0] ∧ win0_12.index t = ![0, 0] :=
  (by decide +kernel : ∀ t : Fin grid0.N, _)

theorem lt32 (t : Fin cfg0.N) : t.val < 32 := t.isLt

/-- The row of the arrays that a block's row is. -/
abbrev row (t : Fin cfg0.N) (p : Fin 256) : Fin 8192 := ⟨256 * t.val + p.val, by have := lt32 t; omega⟩

/-- The arguments hold the rows. -/
abbrev Given (A : Args) : Prop :=
  Cert.NormRef.Given (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) A

theorem blk_da (t : Fin cfg0.N) (p : Fin 256) (j : Fin 2816) :
    iblk m c 0 t (ix2 p j) = (V m c main_v22 : Vec Ideal S8192x2816 .bf16) (ix2 (row t p) j) := by
  have := lt32 t
  blk_ext [iblk, idx t]

theorem blk_db (t : Fin cfg0.N) (p : Fin 256) (j : Fin 2816) :
    iblk m c 1 t (ix2 p j) = (V m c main_v23 : Vec Ideal S8192x2816 .bf16) (ix2 (row t p) j) := by
  have := lt32 t
  blk_ext [iblk, idx t]

theorem blk_dh2 (t : Fin cfg0.N) (p : Fin 256) (k : Fin 1024) :
    iblk m c 2 t (ix2 p k) = (V m c main_arg6 : Vec Ideal S8192x1024 .f32) (ix2 (row t p) k) := by
  have := lt32 t
  blk_ext [iblk, idx t]

theorem blk_h (t : Fin cfg0.N) (p : Fin 256) (k : Fin 1024) :
    iblk m c 3 t (ix2 p k) = (V m c main_v13 : Vec Ideal S8192x1024 .f32) (ix2 (row t p) k) := by
  have := lt32 t
  blk_ext [iblk, idx t]

theorem blk_mix (t : Fin cfg0.N) (p : Fin 256) (k : Fin 1024) :
    iblk m c 4 t (ix2 p k) = (V m c main_arg1 : Vec Ideal S8192x1024 .f32) (ix2 (row t p) k) := by
  have := lt32 t
  blk_ext [iblk, idx t]

theorem blk_gf (t : Fin cfg0.N) (k : Fin 1024) :
    iblk m c 5 t (ix2 0 k) = (V m c main_v15 : Vec Ideal S1x1024 .f32) (ix2 0 k) := by
  have := lt32 t
  blk_ext [iblk, idx t]

theorem blk_gm (t : Fin cfg0.N) (k : Fin 1024) :
    iblk m c 6 t (ix2 0 k) = (V m c main_v14 : Vec Ideal S1x1024 .f32) (ix2 0 k) := by
  have := lt32 t
  blk_ext [iblk, idx t]

theorem blk_wg (t : Fin cfg0.N) (p : Fin 8) (q : Fin 352) (k : Fin 1024) :
    iblk m c 7 t (ix3 p q k) = (V m c main_v18 : Vec Ideal S8x352x1024 .bf16) (ix3 p q k) := by
  have := lt32 t
  blk_ext [iblk, idx t]

theorem blk_wu (t : Fin cfg0.N) (p : Fin 8) (q : Fin 352) (k : Fin 1024) :
    iblk m c 8 t (ix3 p q k) = (V m c main_v21 : Vec Ideal S8x352x1024 .bf16) (ix3 p q k) := by
  have := lt32 t
  blk_ext [iblk, idx t]

section
variable {m c} {A : Args} (G : Given m c A)
include G

theorem da_read (r : Fin 8192) (j : Fin 2816) : (V m c main_v22 : Vec Ideal S8192x2816 .bf16) (ix2 r j) = A.da r j := by
  show StableHlo.after hostOps0 (fun b => m (c, b)) (Proc.devRef .tc main_v22) _ = _
  after_reads_simp
  pointwise
  exact G.da r j

theorem db_read (r : Fin 8192) (j : Fin 2816) : (V m c main_v23 : Vec Ideal S8192x2816 .bf16) (ix2 r j) = A.db r j := by
  show StableHlo.after hostOps0 (fun b => m (c, b)) (Proc.devRef .tc main_v23) _ = _
  after_reads_simp
  pointwise
  exact G.db r j

theorem h_read (r : Fin 8192) (k : Fin 1024) : (V m c main_v13 : Vec Ideal S8192x1024 .f32) (ix2 r k) = A.data.h r k := by
  show StableHlo.after hostOps0 (fun b => m (c, b)) (Proc.devRef .tc main_v13) _ = _
  after_reads_simp
  pointwise
  simp only [G.mix _ _, G.x _ _, G.gm _]
  rfl

theorem gf_read (k : Fin 1024) : (V m c main_v15 : Vec Ideal S1x1024 .f32) (ix2 0 k) = A.gf k := by
  show StableHlo.after hostOps0 (fun b => m (c, b)) (Proc.devRef .tc main_v15) _ = _
  after_reads_simp
  pointwise
  exact G.gf k

theorem gm_read (k : Fin 1024) : (V m c main_v14 : Vec Ideal S1x1024 .f32) (ix2 0 k) = A.gm k := by
  show StableHlo.after hostOps0 (fun b => m (c, b)) (Proc.devRef .tc main_v14) _ = _
  after_reads_simp
  pointwise
  exact G.gm k

theorem wg_read (q : Fin 2816) (k : Fin 1024) :
    (V m c main_v18 : Vec Ideal S8x352x1024 .bf16) (ix3 ⟨q.val / 352, by omega⟩ ⟨q.val % 352, by omega⟩ k) = A.wg k q := by
  show StableHlo.after hostOps0 (fun b => m (c, b)) (Proc.devRef .tc main_v18) _ = _
  after_reads_simp
  refine Eq.trans (b := (m ((c : Thread nD τ).loc main_arg4) : FVec Ideal S1024x2816 .f32) (ix2 k q)) ?_ (G.wg k q)
  pointwise

theorem wu_read (q : Fin 2816) (k : Fin 1024) :
    (V m c main_v21 : Vec Ideal S8x352x1024 .bf16) (ix3 ⟨q.val / 352, by omega⟩ ⟨q.val % 352, by omega⟩ k) = A.wu k q := by
  show StableHlo.after hostOps0 (fun b => m (c, b)) (Proc.devRef .tc main_v21) _ = _
  after_reads_simp
  refine Eq.trans (b := (m ((c : Thread nD τ).loc main_arg5) : FVec Ideal S1024x2816 .f32) (ix2 k q)) ?_ (G.wu k q)
  pointwise

theorem dhn_blk (t : Fin cfg0.N) (p : Fin 256) (k : Fin 1024) :
    k0_pay5 (iblk m c 0 t) (iblk m c 7 t) (iblk m c 1 t) (iblk m c 8 t) (ix2 p k) = A.data.dhn (row t p) k := by
  rw [dhn_at]
  simp only [blk_da, blk_db, blk_wg, blk_wu, da_read G, db_read G, wg_read G, wu_read G]
  rfl

theorem h_blk (t : Fin cfg0.N) (p : Fin 256) (k : Fin 1024) : iblk m c 3 t (ix2 p k) = A.data.h (row t p) k := by
  rw [blk_h, h_read G]

theorem dh2_blk (t : Fin cfg0.N) (p : Fin 256) (k : Fin 1024) : iblk m c 2 t (ix2 p k) = A.dh2 (row t p) k := by
  rw [blk_dh2, V_main_arg6]
  exact G.dh2 _ _

theorem mix_blk (t : Fin cfg0.N) (p : Fin 256) (k : Fin 1024) : iblk m c 4 t (ix2 p k) = A.mix (row t p) k := by
  rw [blk_mix, V_main_arg1]
  exact G.mix _ _

theorem gf_blk (t : Fin cfg0.N) (k : Fin 1024) : iblk m c 5 t (ix2 0 k) = A.gf k := by
  rw [blk_gf, gf_read G]

theorem gm_blk (t : Fin cfg0.N) (k : Fin 1024) : iblk m c 6 t (ix2 0 k) = A.gm k := by
  rw [blk_gm, gm_read G]

end

/-- What a point's lines read of its blocks. -/
abbrev u (t : Fin cfg0.N) := k0_pay7 (F := Ideal) (iblk m c 3 t)
abbrev n (t : Fin cfg0.N) := k0_pay8 (F := Ideal) (iblk m c 3 t)
abbrev s (t : Fin cfg0.N) := k0_pay9 (F := Ideal) (iblk m c 0 t) (iblk m c 7 t) (iblk m c 1 t) (iblk m c 8 t) (iblk m c 5 t)
abbrev w (t : Fin cfg0.N) := k0_pay10 (F := Ideal) (iblk m c 0 t) (iblk m c 7 t) (iblk m c 1 t) (iblk m c 8 t) (iblk m c 3 t) (iblk m c 5 t)

theorem out_dh1 (t : Fin cfg0.N) : (outsAt0 m c t.val t.isLt).1 = k0_pay11 (u m c t) (n m c t) (iblk m c 2 t) (s m c t) (w m c t) := by
  by_cases h : t.val % 32 = 0
  · rw [outsAt0_A m c t h]; frame_out
  · rw [outsAt0_B m c t h]; frame_out

theorem out_dmix (t : Fin cfg0.N) : (outsAt0 m c t.val t.isLt).2.1
    = k0_pay16 (u m c t) (n m c t) (iblk m c 2 t) (s m c t) (w m c t) (iblk m c 4 t) (iblk m c 6 t) := by
  by_cases h : t.val % 32 = 0
  · rw [outsAt0_A m c t h]; frame_out
  · rw [outsAt0_B m c t h]; frame_out

section
variable {m c} {A : Args} (G : Given m c A)
include G

theorem first_blk (t : Fin cfg0.N) (p : Fin 256) (k : Fin 1024) :
    k0_pay11 (u m c t) (n m c t) (iblk m c 2 t) (s m c t) (w m c t) (ix2 p k) = A.data.dh1 (row t p) k :=
  dh1_at (dhn := fun p => A.data.dhn (row t p)) (h := fun p => A.data.h (row t p)) (dh2 := fun p => A.dh2 (row t p)) _ _ _ _
    (dhn_blk G t) (h_blk G t) (dh2_blk G t) (gf_blk G t) p k

theorem second_blk (t : Fin cfg0.N) (p : Fin 256) (k : Fin 1024) :
    k0_pay16 (u m c t) (n m c t) (iblk m c 2 t) (s m c t) (w m c t) (iblk m c 4 t) (iblk m c 6 t) (ix2 p k)
      = A.data.dmix (row t p) k :=
  dmix_at (d := fun p => A.data.dh1 (row t p)) (mix := fun p => A.mix (row t p)) _ _ _ _ (first_blk G t) (mix_blk G t) (gm_blk G t) p k

end

theorem place_dh1 (t : Fin cfg0.N) (y : ((cfg0.win 9).xblock (cfg0.grid.coords t)).Idx) :
    (win0_9.blk t).view.emb y = ix2 (row t (y 0)) (y 1) := by
  have := lt32 t
  blk_ext [idx t]

theorem place_dmix (t : Fin cfg0.N) (y : ((cfg0.win 10).xblock (cfg0.grid.coords t)).Idx) :
    (win0_10.blk t).view.emb y = ix2 (row t (y 0)) (y 1) := by
  have := lt32 t
  blk_ext [idx t]

theorem lane1 (y : S1x1024.Idx) : y = ix2 0 (y 1) := by
  exact (ix2_eta y).symm.trans (congrArg (fun a : Fin 1 => ix2 a (y 1)) (Subsingleton.elim (α := Fin 1) _ _))

theorem place_dgf (t : Fin cfg0.N) (y : ((cfg0.win 11).xblock (cfg0.grid.coords t)).Idx) :
    (win0_11.blk t).view.emb y = ix2 (y 0) (y 1) := by
  have := lt32 t
  blk_ext [idx t]

theorem place_dgm (t : Fin cfg0.N) (y : ((cfg0.win 12).xblock (cfg0.grid.coords t)).Idx) :
    (win0_12.blk t).view.emb y = ix2 (y 0) (y 1) := by
  have := lt32 t
  blk_ext [idx t]

/-- The four results, entry by entry. -/
abbrev dh1V (A : Args) : FVec Ideal S8192x1024 .f32 := fun j => A.data.dh1 (j 0) (j 1)
abbrev dmixV (A : Args) : FVec Ideal S8192x1024 .bf16 := fun j => A.data.dmix (j 0) (j 1)
abbrev dgfV (A : Args) : FVec Ideal S1x1024 .f32 := fun j => A.data.dgf (j 1)
abbrev dgmV (A : Args) : FVec Ideal S1x1024 .f32 := fun j => A.data.dgm (j 1)

section
variable {m c} {A : Args} (G : Given m c A)
include G

theorem final_dh1 : (dats m 0 c).arrAt 9 (cfgs 0).N = dh1V A := by
  refine (dats m 0 c).arrAt_eq_of_covers 9 _ (by decide +kernel) fun t _ y => ?_
  blk_simp
  rw [after0_9, out_dh1, place_dh1]
  exact (congrArg (k0_pay11 (u m c t) (n m c t) (iblk m c 2 t) (s m c t) (w m c t)) (ix2_eta y).symm).trans (first_blk G t (y 0) (y 1))

theorem final_dmix : (dats m 0 c).arrAt 10 (cfgs 0).N = dmixV A := by
  refine (dats m 0 c).arrAt_eq_of_covers 10 _ (by decide +kernel) fun t _ y => ?_
  blk_simp
  rw [after0_10, out_dmix, place_dmix]
  exact (congrArg (k0_pay16 (u m c t) (n m c t) (iblk m c 2 t) (s m c t) (w m c t) (iblk m c 4 t) (iblk m c 6 t)) (ix2_eta y).symm).trans
    (second_blk G t (y 0) (y 1))

/-- One point's share of the norms' weights. -/
theorem third_blk (t : Fin cfg0.N) (k : Fin 1024) :
    k0_pay14 (k0_pay5 (iblk m c 0 t) (iblk m c 7 t) (iblk m c 1 t) (iblk m c 8 t)) (n m c t) (ix2 0 k)
      = ∑ p : Fin 256, A.data.dhn (row t p) k * (A.data.h (row t p) k * rs (A.data.h (row t p))) :=
  dgf_at (dhn := fun p => A.data.dhn (row t p)) (h := fun p => A.data.h (row t p)) _ _ _ _ (dhn_blk G t) (h_blk G t) k

theorem fourth_blk (t : Fin cfg0.N) (k : Fin 1024) :
    k0_pay15 (u m c t) (n m c t) (iblk m c 2 t) (s m c t) (w m c t) (iblk m c 4 t) (ix2 0 k)
      = ∑ p : Fin 256, A.data.dh1 (row t p) k * (A.mix (row t p) k * rs (A.mix (row t p))) :=
  dgm_at (d := fun p => A.data.dh1 (row t p)) (mix := fun p => A.mix (row t p)) _ _ _ _ (first_blk G t) (mix_blk G t) k

theorem acc_dgf (t : Fin cfg0.N) (h1 : t.val % 32 = 31) (k : Fin 1024) :
    (outsAt0 m c t.val t.isLt).2.2.1 (ix2 0 k) = A.data.dgf k := by
  rw [Pipeline.eq_sum_fin_of_reset_step_apply_of_flush (fun n h => (outsAt0 m c n h).2.2.1) 32 (fun _ => 0)
    (fun t j => k0_pay14 (k0_pay5 (iblk m c 0 t) (iblk m c 7 t) (iblk m c 1 t) (iblk m c 8 t)) (n m c t) j)
    (fun t h j => by rw [outsAt0_A m c t h]; frame_out; rw [add3_at, zero1_at])
    (fun t h j => by rw [outsAt0_B m c t h]; frame_out; rw [add3_at])
    t h1 (ix2 0 k), zero_add]
  show _ = ∑ r : Fin 8192, A.data.dhn r k * (A.data.h r k * rs (A.data.h r))
  simp only [third_blk G]
  refine Fin.sum_mul_add_congr fun s p hl => ?_
  have e : row ⟨32 * (t.val / 32) + s.val, Pipeline.run_point_lt_of_flush t h1 s⟩ p = ⟨s.val * 256 + p.val, hl⟩ := by
    have := lt32 t
    ext
    show 256 * (32 * (t.val / 32) + s.val) + p.val = s.val * 256 + p.val
    omega
  rw [e]

theorem final_dgf : (dats m 0 c).arrAt 11 (cfgs 0).N = dgfV A := by
  refine (dats m 0 c).arrAt_eq_of_covers 11 _ (by decide +kernel) fun t hf y => ?_
  blk_simp
  rw [after0_11, place_dgf]
  exact (congrArg (outsAt0 m c t.val t.isLt).2.2.1 (lane1 y)).trans (acc_dgf G t ((flush0_11 t).mp hf) (y 1))

theorem acc_dgm (t : Fin cfg0.N) (h1 : t.val % 32 = 31) (k : Fin 1024) :
    (outsAt0 m c t.val t.isLt).2.2.2 (ix2 0 k) = A.data.dgm k := by
  rw [Pipeline.eq_sum_fin_of_reset_step_apply_of_flush (fun n h => (outsAt0 m c n h).2.2.2) 32 (fun _ => 0)
    (fun t j => k0_pay15 (u m c t) (n m c t) (iblk m c 2 t) (s m c t) (w m c t) (iblk m c 4 t) j)
    (fun t h j => by rw [outsAt0_A m c t h]; frame_out; rw [add4_at, zero2_at])
    (fun t h j => by rw [outsAt0_B m c t h]; frame_out; rw [add4_at])
    t h1 (ix2 0 k), zero_add]
  show _ = ∑ r : Fin 8192, A.data.dh1 r k * (A.mix r k * rs (A.mix r))
  simp only [fourth_blk G]
  refine Fin.sum_mul_add_congr fun s p hl => ?_
  have e : row ⟨32 * (t.val / 32) + s.val, Pipeline.run_point_lt_of_flush t h1 s⟩ p = ⟨s.val * 256 + p.val, hl⟩ := by
    have := lt32 t
    ext
    show 256 * (32 * (t.val / 32) + s.val) + p.val = s.val * 256 + p.val
    omega
  rw [e]

theorem final_dgm : (dats m 0 c).arrAt 12 (cfgs 0).N = dgmV A := by
  refine (dats m 0 c).arrAt_eq_of_covers 12 _ (by decide +kernel) fun t hf y => ?_
  blk_simp
  rw [after0_12, place_dgm]
  exact (congrArg (outsAt0 m c t.val t.isLt).2.2.2 (lane1 y)).trans (acc_dgm G t ((flush0_12 t).mp hf) (y 1))

end

end Cert.NormIdeal.Norm

namespace Cert.Proof.Norm

open Cert.NormMath

theorem kernel : Cert.quiescent_Norm := fun m ρ _ => Cert.Norm.Gen.frame m ρ

theorem kernel_ideal : Cert.quiescent_NormIdeal := fun m ρ _ => Cert.NormIdeal.Gen.frame m ρ

theorem reference_ideal : Cert.quiescent_NormRefIdeal := fun m ρ _ =>
  (θ_run Cert.NormRefIdeal.defs _ _).mono (fun r h => ⟨fun c => (h c).2.2.2.2,
      Idealize.ShloMosaic.sem_eq_zero_of_no_sems (by decide) r.2⟩)
    (Cert.NormRefIdeal.Value.run (F := Ideal) m ρ)

/-- The arguments, as rows. -/
def args (x mix : Cert.NormRef.Arr) (gm gf : FVec Ideal Cert.NormRefIdeal.S1024 .f32) (wg wu : FVec Ideal Cert.NormRefIdeal.S1024x2816 .f32)
    (dh2 : Cert.NormRef.Arr) (da db : FVec Ideal Cert.NormRefIdeal.S8192x2816 .f32) : Args :=
  { x := fun r k => x (ix2 r k), mix := fun r k => mix (ix2 r k), gm := fun k => gm (ix1 k), gf := fun k => gf (ix1 k)
    wg := fun k j => wg (ix2 k j), wu := fun k j => wu (ix2 k j), dh2 := fun r k => dh2 (ix2 r k)
    da := fun r j => da (ix2 r j), db := fun r j => db (ix2 r j) }

theorem given (x mix : Cert.NormRef.Arr) (gm gf : FVec Ideal Cert.NormRefIdeal.S1024 .f32) (wg wu : FVec Ideal Cert.NormRefIdeal.S1024x2816 .f32)
    (dh2 : Cert.NormRef.Arr) (da db : FVec Ideal Cert.NormRefIdeal.S8192x2816 .f32) :
    ∃ A : Args, Cert.NormRef.Given x mix gm gf wg wu dh2 da db A :=
  ⟨args x mix gm gf wg wu dh2 da db, ⟨fun _ _ => rfl, fun _ _ => rfl, fun _ => rfl, fun _ => rfl, fun _ _ => rfl, fun _ _ => rfl,
    fun _ _ => rfl, fun _ _ => rfl, fun _ _ => rfl⟩⟩

theorem algebraic : Cert.algebraic_NormIdeal_NormRefIdeal := by
  intro m ρ m' ρ' hp hagree
  choose A G using fun c : Dev Cert.NormIdeal.nD => given (m ((c.tc : Thread Cert.NormIdeal.nD Cert.NormIdeal.τ).loc Cert.NormIdeal.main_arg0))
    (m (c.tc.loc Cert.NormIdeal.main_arg1)) (m (c.tc.loc Cert.NormIdeal.main_arg2)) (m (c.tc.loc Cert.NormIdeal.main_arg3))
    (m (c.tc.loc Cert.NormIdeal.main_arg4)) (m (c.tc.loc Cert.NormIdeal.main_arg5)) (m (c.tc.loc Cert.NormIdeal.main_arg6))
    (m (c.tc.loc Cert.NormIdeal.main_arg7)) (m (c.tc.loc Cert.NormIdeal.main_arg8))
  refine ⟨fun c => Cert.NormIdeal.Norm.dh1V (A c), fun c => Cert.NormIdeal.Norm.dmixV (A c), fun c => Cert.NormIdeal.Norm.dgfV (A c),
    fun c => Cert.NormIdeal.Norm.dgmV (A c), ?_, ?_⟩
  · refine (θ_run Cert.NormIdeal.defs _ _).mono (fun r hr c => ?_) (Cert.NormIdeal.Value.run_blocks m ρ)
    obtain ⟨h0, h1, h2, h3, hrest⟩ := hr c
    exact ⟨h0.trans (Cert.NormIdeal.Norm.final_dh1 (G c)), h1.trans (Cert.NormIdeal.Norm.final_dmix (G c)),
      h2.trans (Cert.NormIdeal.Norm.final_dgf (G c)), h3.trans (Cert.NormIdeal.Norm.final_dgm (G c)), hrest⟩
  · refine (θ_run Cert.NormRefIdeal.defs _ _).mono (fun r hr c => ?_) (Cert.NormRefIdeal.Value.run (F := Ideal) m' ρ')
    obtain ⟨h0, h1, h2, h3, hrest⟩ := hr c
    obtain ⟨e0, e1, e2, e3, e4, e5, e6, e7, e8⟩ := hagree c
    have G' : Cert.NormRef.Given (Cert.NormRef.ax m' c) (Cert.NormRef.amix m' c) (Cert.NormRef.agm m' c) (Cert.NormRef.agf m' c)
        (Cert.NormRef.awg m' c) (Cert.NormRef.awu m' c) (Cert.NormRef.adh2 m' c) (Cert.NormRef.ada m' c) (Cert.NormRef.adb m' c) (A c) := by
      have := G c
      rw [← e0, ← e1, ← e2, ← e3, ← e4, ← e5, ← e6, ← e7, ← e8] at this
      exact this
    refine ⟨h0.trans ((Cert.NormRef.dh1_read m' c).trans ?_), h1.trans ((Cert.NormRef.dmix_read m' c).trans ?_), h2.trans ?_,
      h3.trans ((Cert.NormRef.dgm_read m' c).trans ?_), hrest⟩
    · funext i
      exact (congrArg _ (ix2_eta i).symm).trans (Cert.NormRef.first_val G' (i 0) (i 1))
    · funext i
      exact (congrArg _ (ix2_eta i).symm).trans (Cert.NormRef.second_val G' (i 0) (i 1))
    · funext i
      exact (congrArg _ (Cert.NormIdeal.Norm.lane1 i)).trans (Cert.NormRef.third_val G' (i 1))
    · funext i
      exact (congrArg _ (Cert.NormIdeal.Norm.lane1 i)).trans (Cert.NormRef.fourth_val G' (i 1))

end Cert.Proof.Norm

end
-- ==== Proof.WeightGate.lean ====
/- The gradient of the gate's projection's weight, transposed: the blocked product with its running sum in scratch is one product. -/
module

public import proofs.«01_k».proof.Defs
public import proofs.«01_k».proof.Proof.Gen.WeightGate.Frame
public import proofs.«01_k».proof.Proof.Gen.WeightGateIdeal.Frame
public import proofs.«01_k».proof.Proof.Gen.WeightGateRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WeightGateIdeal.Product

open Cert.WeightGateIdeal Cert.WeightGateIdeal.Gen

variable (m : (ℓ : Loc nD τ sig) → Buf (Elt Ideal) ℓ)

/-- The product over all rows, as the reference writes it. -/
abbrev whole (X : FVec Ideal S8192x2816 .f32) (D : FVec Ideal S8192x1024 .f32) : FVec Ideal S2816x1024 .bf16 :=
  truncf .bf16 (transpose Cert.WeightGateRefIdeal.S2816x1024 [1, 0] (transpose Cert.WeightGateRefIdeal.S1024x2816 [1, 0]
    (Host.dotGeneral Cert.WeightGateRefIdeal.dot_S8192x2816_S8192x1024_S2816x1024_0_0_1_1_n_n none X D)
    Cert.WeightGateRefIdeal.Gen.transposes_S2816x1024_S1024x2816_1_0) Cert.WeightGateRefIdeal.Gen.transposes_S1024x2816_S2816x1024_1_0) Cert.WeightGateRefIdeal.Gen.bitsLt_bf16_f32

theorem fill (j) : k0_pay1 (F := Ideal) j = 0 := by pointwise [k0_pay1]

theorem added (acc : Vec Ideal S1408x1024 .f32) (x : Vec Ideal S1024x1408 .bf16) (d : Vec Ideal S1024x1024 .bf16) (j) :
    k0_pay2 acc x d j = acc j + ∑ k : Fin 1024, x (ix2 k (j 0)) * d (ix2 k (j 1)) := by
  pointwise [k0_pay2]

theorem whole_at (X : FVec Ideal S8192x2816 .f32) (D : FVec Ideal S8192x1024 .f32) (j) :
    whole X D j = ∑ k : Fin 8192, X (ix2 k (j 0)) * D (ix2 k (j 1)) := by
  pointwise [whole]

theorem idx : ∀ t : Fin cfg0.N, win0_0.index t = ![t.val % 8, t.val / 8] ∧ win0_1.index t = ![t.val % 8, 0] ∧ win0_2.index t = ![t.val / 8, 0]
    ∧ t.val / 8 < 2 :=
  (by decide +kernel : ∀ t : Fin grid0.N, _)

theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  have h1 : t.val % 8 = 7 := (flush0_2 t).mp hf
  have h0 : ¬t.val % 8 = 0 := by omega
  have hs : (outsAt0 m c t.val t.isLt).1 y = (outsAt0 m c t.val t.isLt).2 y := by
    rw [outsAt0_C m c t h0 h1]; frame_out
    pointwise [k0_pay3]
  blk_simp
  rw [after0_2, hs, Pipeline.eq_sum_fin_of_reset_step_apply_of_flush (fun n h => (outsAt0 m c n h).2) 8 (fun _ => 0) _
    (fun t h j => by rw [outsAt0_A m c t h (by omega)]; frame_out; rw [added, fill])
    (fun t h j => by
      by_cases h7 : t.val % 8 = 7
      · rw [outsAt0_C m c t h h7]; frame_out; rw [added, read_unread_whole]
      · rw [outsAt0_B m c t h h7]; frame_out; rw [added, read_unread_whole])
    t h1 _, zero_add, whole_at]
  refine Fin.sum_mul_add_congr fun s k hl => ?_
  blk_point [iblk, V, idx t, idx ⟨_, Pipeline.run_point_lt_of_flush t h1 s⟩]

end Cert.WeightGateIdeal.Product

namespace Cert.Proof.WeightGate

theorem kernel : Cert.quiescent_WeightGate := fun m ρ _ => Cert.WeightGate.Gen.frame m ρ

theorem kernel_ideal : Cert.quiescent_WeightGateIdeal := fun m ρ _ => Cert.WeightGateIdeal.Gen.frame m ρ

theorem reference_ideal : Cert.quiescent_WeightGateRefIdeal := fun m ρ _ =>
  (θ_run Cert.WeightGateRefIdeal.defs _ _).mono (fun r h => ⟨fun c => (h c).2,
      Idealize.ShloMosaic.sem_eq_zero_of_no_sems (by decide) r.2⟩)
    (Cert.WeightGateRefIdeal.Value.run (F := Ideal) m ρ)

theorem algebraic : Cert.algebraic_WeightGateIdeal_WeightGateRefIdeal := by
  pair_intro
  · run_from Cert.WeightGateIdeal.Gen.run_main m g
  · hlo_run
    exact (Cert.WeightGateIdeal.Product.final m c).symm

end Cert.Proof.WeightGate

end
-- ==== Proof.WeightUp.lean ====
/- The gradient of the up projection's weight, transposed: the blocked product with its running sum in scratch is one product. -/
module

public import proofs.«01_k».proof.Defs
public import proofs.«01_k».proof.Proof.Gen.WeightUp.Frame
public import proofs.«01_k».proof.Proof.Gen.WeightUpIdeal.Frame
public import proofs.«01_k».proof.Proof.Gen.WeightUpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WeightUpIdeal.Product

open Cert.WeightUpIdeal Cert.WeightUpIdeal.Gen

variable (m : (ℓ : Loc nD τ sig) → Buf (Elt Ideal) ℓ)

/-- The product over all rows, as the reference writes it. -/
abbrev whole (X : FVec Ideal S8192x2816 .f32) (D : FVec Ideal S8192x1024 .f32) : FVec Ideal S2816x1024 .bf16 :=
  truncf .bf16 (transpose Cert.WeightUpRefIdeal.S2816x1024 [1, 0] (transpose Cert.WeightUpRefIdeal.S1024x2816 [1, 0]
    (Host.dotGeneral Cert.WeightUpRefIdeal.dot_S8192x2816_S8192x1024_S2816x1024_0_0_1_1_n_n none X D)
    Cert.WeightUpRefIdeal.Gen.transposes_S2816x1024_S1024x2816_1_0) Cert.WeightUpRefIdeal.Gen.transposes_S1024x2816_S2816x1024_1_0) Cert.WeightUpRefIdeal.Gen.bitsLt_bf16_f32

theorem fill (j) : k0_pay1 (F := Ideal) j = 0 := by pointwise [k0_pay1]

theorem added (acc : Vec Ideal S1408x1024 .f32) (x : Vec Ideal S1024x1408 .bf16) (d : Vec Ideal S1024x1024 .bf16) (j) :
    k0_pay2 acc x d j = acc j + ∑ k : Fin 1024, x (ix2 k (j 0)) * d (ix2 k (j 1)) := by
  pointwise [k0_pay2]

theorem whole_at (X : FVec Ideal S8192x2816 .f32) (D : FVec Ideal S8192x1024 .f32) (j) :
    whole X D j = ∑ k : Fin 8192, X (ix2 k (j 0)) * D (ix2 k (j 1)) := by
  pointwise [whole]

theorem idx : ∀ t : Fin cfg0.N, win0_0.index t = ![t.val % 8, t.val / 8] ∧ win0_1.index t = ![t.val % 8, 0] ∧ win0_2.index t = ![t.val / 8, 0]
    ∧ t.val / 8 < 2 :=
  (by decide +kernel : ∀ t : Fin grid0.N, _)

theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  have h1 : t.val % 8 = 7 := (flush0_2 t).mp hf
  have h0 : ¬t.val % 8 = 0 := by omega
  have hs : (outsAt0 m c t.val t.isLt).1 y = (outsAt0 m c t.val t.isLt).2 y := by
    rw [outsAt0_C m c t h0 h1]; frame_out
    pointwise [k0_pay3]
  blk_simp
  rw [after0_2, hs, Pipeline.eq_sum_fin_of_reset_step_apply_of_flush (fun n h => (outsAt0 m c n h).2) 8 (fun _ => 0) _
    (fun t h j => by rw [outsAt0_A m c t h (by omega)]; frame_out; rw [added, fill])
    (fun t h j => by
      by_cases h7 : t.val % 8 = 7
      · rw [outsAt0_C m c t h h7]; frame_out; rw [added, read_unread_whole]
      · rw [outsAt0_B m c t h h7]; frame_out; rw [added, read_unread_whole])
    t h1 _, zero_add, whole_at]
  refine Fin.sum_mul_add_congr fun s k hl => ?_
  blk_point [iblk, V, idx t, idx ⟨_, Pipeline.run_point_lt_of_flush t h1 s⟩]

end Cert.WeightUpIdeal.Product

namespace Cert.Proof.WeightUp

theorem kernel : Cert.quiescent_WeightUp := fun m ρ _ => Cert.WeightUp.Gen.frame m ρ

theorem kernel_ideal : Cert.quiescent_WeightUpIdeal := fun m ρ _ => Cert.WeightUpIdeal.Gen.frame m ρ

theorem reference_ideal : Cert.quiescent_WeightUpRefIdeal := fun m ρ _ =>
  (θ_run Cert.WeightUpRefIdeal.defs _ _).mono (fun r h => ⟨fun c => (h c).2,
      Idealize.ShloMosaic.sem_eq_zero_of_no_sems (by decide) r.2⟩)
    (Cert.WeightUpRefIdeal.Value.run (F := Ideal) m ρ)

theorem algebraic : Cert.algebraic_WeightUpIdeal_WeightUpRefIdeal := by
  pair_intro
  · run_from Cert.WeightUpIdeal.Gen.run_main m g
  · hlo_run
    exact (Cert.WeightUpIdeal.Product.final m c).symm

end Cert.Proof.WeightUp

end
-- ==== Proof.Down.lean ====
/- The second product of the feed-forward layer, and the norm that follows it. -/
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.NormMath
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.Affine

@[expose] public section

set_option maxRecDepth 16384

noncomputable section

open Idealize.ShloMosaic Idealize.ShloMosaic.TcCoe Idealize.SL.Sem
open Idealize.ShloMosaic.Pipeline (Dat)

namespace Cert.DownRef

open Cert.DownRefIdeal Cert.DownRefIdeal.Gen Cert.NormMath

/-- The product and the residual stream after the layer, entry by entry. -/
abbrev ffV (f : FVec Ideal S8192x2816 .f32) (w : FVec Ideal S2816x1024 .f32) : FVec Ideal S8192x1024 .f32 :=
  fun i => ∑ j : Fin 2816, f (ix2 (i 0) j) * w (ix2 j (i 1))

abbrev h2V (f : FVec Ideal S8192x2816 .f32) (h : FVec Ideal S8192x1024 .f32) (g : FVec Ideal S1024 .f32) (w : FVec Ideal S2816x1024 .f32) :
    FVec Ideal S8192x1024 .f32 :=
  fun i => h i + ffV f w i * rs (fun k => ffV f w (ix2 (i 0) k)) * g (ix1 (i 1))

/-- The same as the reference's lines compute them. -/
abbrev ffF (f : FVec Ideal S8192x2816 .f32) (w : FVec Ideal S2816x1024 .f32) : FVec Ideal S8192x1024 .f32 :=
  Host.dotGeneral dot_S8192x2816_S2816x1024_S8192x1024_1_0_0_1_n_n none f w

def h2F (ff h : FVec Ideal S8192x1024 .f32) (g : FVec Ideal S1024 .f32) : FVec Ideal S8192x1024 .f32 :=
  addf h (mulf (mulf ff (broadcastInDim S8192x1024 ![0, 1] bcast_S8192x1_S8192x1024_0_1
    (Host.rsqrt (addf (Host.divf (broadcastInDim S8192x1 ![0] bcast_S8192_S8192x1_0
      (Host.reduceAdd (mulf ff ff) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g)))

theorem ff_at (f : FVec Ideal S8192x2816 .f32) (w : FVec Ideal S2816x1024 .f32) (r : Fin 8192) (k : Fin 1024) :
    ffF f w (ix2 r k) = ∑ j : Fin 2816, f (ix2 r j) * w (ix2 j k) := by
  pointwise [ffF]

theorem ff_eq (f : FVec Ideal S8192x2816 .f32) (w : FVec Ideal S2816x1024 .f32) : ffF f w = ffV f w := by
  funext i
  exact (congrArg _ (ix2_eta i).symm).trans (ff_at f w (i 0) (i 1))

theorem h2_at (ff h : FVec Ideal S8192x1024 .f32) (g : FVec Ideal S1024 .f32) (r : Fin 8192) (k : Fin 1024) :
    h2F ff h g (ix2 r k) = h (ix2 r k) + ff (ix2 r k) * rs (fun k => ff (ix2 r k)) * g (ix1 k) := by
  pointwise [h2F]
  rfl

theorem h2_eq (f : FVec Ideal S8192x2816 .f32) (h : FVec Ideal S8192x1024 .f32) (g : FVec Ideal S1024 .f32) (w : FVec Ideal S2816x1024 .f32) :
    h2F (ffF f w) h g = h2V f h g w := by
  rw [ff_eq]
  funext i
  refine ((congrArg _ (ix2_eta i).symm).trans (h2_at (ffV f w) h g (i 0) (i 1))).trans ?_
  rw [ix2_eta i]

end Cert.DownRef

namespace Cert.DownIdeal.Down

open Cert.DownIdeal Cert.DownIdeal.Gen Cert.NormMath

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0, 0] ∧ win0_4.index t = ![t.val, 0] ∧ win0_5.index t = ![t.val, 0] :=
  (by decide +kernel : ∀ t : Fin grid0.N, _)

theorem lt16 (t : Fin cfg0.N) : t.val < 16 := t.isLt

/-- The row of the arrays that a block's row is. -/
abbrev row (t : Fin cfg0.N) (p : Fin 512) : Fin 8192 := ⟨512 * t.val + p.val, by have := lt16 t; omega⟩

/-- The arguments. -/
abbrev f : FVec Ideal S8192x2816 .f32 := m ((c : Thread nD τ).loc main_arg0)
abbrev h : FVec Ideal S8192x1024 .f32 := m ((c : Thread nD τ).loc main_arg1)
abbrev g : FVec Ideal S1024 .f32 := m ((c : Thread nD τ).loc main_arg2)
abbrev w : FVec Ideal S2816x1024 .f32 := m ((c : Thread nD τ).loc main_arg3)

theorem blk_f (t : Fin cfg0.N) (p : Fin 512) (j : Fin 2816) :
    iblk m c 0 t (ix2 p j) = (V m c main_v2 : Vec Ideal S8192x2816 .bf16) (ix2 (row t p) j) := by
  have := lt16 t
  blk_ext [iblk, idx t]

theorem blk_h (t : Fin cfg0.N) (p : Fin 512) (k : Fin 1024) :
    iblk m c 1 t (ix2 p k) = (V m c main_arg1 : Vec Ideal S8192x1024 .f32) (ix2 (row t p) k) := by
  have := lt16 t
  blk_ext [iblk, idx t]

theorem blk_g (t : Fin cfg0.N) (k : Fin 1024) :
    iblk m c 2 t (ix2 0 k) = (V m c main_v3 : Vec Ideal S1x1024 .f32) (ix2 0 k) := by
  have := lt16 t
  blk_ext [iblk, idx t]

theorem blk_w (t : Fin cfg0.N) (p : Fin 8) (q : Fin 352) (k : Fin 1024) :
    iblk m c 3 t (ix3 p q k) = (V m c main_v1 : Vec Ideal S8x352x1024 .bf16) (ix3 p q k) := by
  have := lt16 t
  blk_ext [iblk, idx t]

theorem f_read (j : S8192x2816.Idx) : (V m c main_v2 : Vec Ideal S8192x2816 .bf16) j = f m c j := by
  show StableHlo.after hostOps0 (fun b => m (c, b)) (Proc.devRef .tc main_v2) j = _
  after_reads_simp
  pointwise

theorem g_read (k : Fin 1024) : (V m c main_v3 : Vec Ideal S1x1024 .f32) (ix2 0 k) = g m c (ix1 k) := by
  show StableHlo.after hostOps0 (fun b => m (c, b)) (Proc.devRef .tc main_v3) _ = _
  after_reads_simp
  pointwise

theorem w_read (q : Fin 2816) (k : Fin 1024) :
    (V m c main_v1 : Vec Ideal S8x352x1024 .bf16) (ix3 ⟨q.val / 352, by omega⟩ ⟨q.val % 352, by omega⟩ k) = w m c (ix2 q k) := by
  show StableHlo.after hostOps0 (fun b => m (c, b)) (Proc.devRef .tc main_v1) _ = _
  after_reads_simp
  pointwise

theorem pay_ff (F : Vec Ideal S512x2816 .bf16) (W : Vec Ideal S8x352x1024 .bf16) (p : Fin 512) (k : Fin 1024) :
    k0_pay1 F W (ix2 p k) = ∑ q : Fin 2816, F (ix2 p q) * W (ix3 ⟨q.val / 352, by omega⟩ ⟨q.val % 352, by omega⟩ k) := by
  pointwise [k0_pay1]

theorem pay_h2 (F : Vec Ideal S512x2816 .bf16) (W : Vec Ideal S8x352x1024 .bf16) (H : Vec Ideal S512x1024 .f32) (G : Vec Ideal S1x1024 .f32)
    (v : Fin 512 → Row) (hv : ∀ p k, k0_pay1 F W (ix2 p k) = v p k) (p : Fin 512) (k : Fin 1024) :
    k0_pay2 F W H G (ix2 p k) = H (ix2 p k) + v p k * rs (v p) * G (ix2 0 k) := by
  pointwise [k0_pay2]
  simp only [hv]
  rfl

theorem point_ff (t : Fin cfg0.N) (p : Fin 512) (k : Fin 1024) :
    k0_pay1 (iblk m c 0 t) (iblk m c 3 t) (ix2 p k) = Cert.DownRef.ffV (f m c) (w m c) (ix2 (row t p) k) := by
  rw [pay_ff]
  refine Finset.sum_congr rfl fun j _ => ?_
  rw [blk_f, blk_w, f_read, w_read]
  rfl

theorem point_h2 (t : Fin cfg0.N) (p : Fin 512) (k : Fin 1024) :
    k0_pay2 (iblk m c 0 t) (iblk m c 3 t) (iblk m c 1 t) (iblk m c 2 t) (ix2 p k)
      = Cert.DownRef.h2V (f m c) (h m c) (g m c) (w m c) (ix2 (row t p) k) := by
  rw [pay_h2 _ _ _ _ (fun p k => Cert.DownRef.ffV (f m c) (w m c) (ix2 (row t p) k)) (point_ff m c t), blk_h, blk_g, g_read, V_main_arg1]
  rfl

theorem place_ff (t : Fin cfg0.N) (y : ((cfg0.win 4).xblock (cfg0.grid.coords t)).Idx) :
    (win0_4.blk t).view.emb y = ix2 (row t (y 0)) (y 1) := by
  have := lt16 t
  blk_ext [idx t]

theorem place_h2 (t : Fin cfg0.N) (y : ((cfg0.win 5).xblock (cfg0.grid.coords t)).Idx) :
    (win0_5.blk t).view.emb y = ix2 (row t (y 0)) (y 1) := by
  have := lt16 t
  blk_ext [idx t]

theorem final_ff : (dats m 0 c).arrAt 4 (cfgs 0).N = Cert.DownRef.ffV (f m c) (w m c) := by
  refine (dats m 0 c).arrAt_eq_of_covers 4 _ (by decide +kernel) fun t _ y => ?_
  blk_simp
  rw [after0_4]
  frame_out
  rw [place_ff]
  exact (congrArg (k0_pay1 (iblk m c 0 t) (iblk m c 3 t)) (ix2_eta y).symm).trans (point_ff m c t (y 0) (y 1))

theorem final_h2 : (dats m 0 c).arrAt 5 (cfgs 0).N = Cert.DownRef.h2V (f m c) (h m c) (g m c) (w m c) := by
  refine (dats m 0 c).arrAt_eq_of_covers 5 _ (by decide +kernel) fun t _ y => ?_
  blk_simp
  rw [after0_5]
  frame_out
  rw [place_h2]
  exact (congrArg (k0_pay2 (iblk m c 0 t) (iblk m c 3 t) (iblk m c 1 t) (iblk m c 2 t)) (ix2_eta y).symm).trans (point_h2 m c t (y 0) (y 1))

end Cert.DownIdeal.Down

namespace Cert.Proof.Down

theorem kernel : Cert.quiescent_Down := fun m ρ _ => Cert.Down.Gen.frame m ρ

theorem kernel_ideal : Cert.quiescent_DownIdeal := fun m ρ _ => Cert.DownIdeal.Gen.frame m ρ

theorem reference_ideal : Cert.quiescent_DownRefIdeal := fun m ρ _ =>
  (θ_run Cert.DownRefIdeal.defs _ _).mono (fun r h => ⟨fun c => (h c).2.2,
      Idealize.ShloMosaic.sem_eq_zero_of_no_sems (by decide) r.2⟩)
    (Cert.DownRefIdeal.Value.run (F := Ideal) m ρ)

open Cert.DownIdeal.Down in
theorem algebraic : Cert.algebraic_DownIdeal_DownRefIdeal := by
  intro m ρ m' ρ' hp hagree
  refine ⟨fun c => Cert.DownRef.ffV (f m c) (w m c), fun c => Cert.DownRef.h2V (f m c) (h m c) (g m c) (w m c), ?_, ?_⟩
  · refine (θ_run Cert.DownIdeal.defs _ _).mono (fun r hr c => ?_) (Cert.DownIdeal.Value.run_blocks m ρ)
    obtain ⟨h0, h1, hrest⟩ := hr c
    exact ⟨h0.trans (final_ff m c), h1.trans (final_h2 m c), hrest⟩
  · refine (θ_run Cert.DownRefIdeal.defs _ _).mono (fun r hr c => ?_) (Cert.DownRefIdeal.Value.run (F := Ideal) m' ρ')
    obtain ⟨h0, h1, hrest⟩ := hr c
    obtain ⟨e0, e1, e2, e3⟩ := hagree c
    refine ⟨h0.trans ?_, h1.trans ?_, hrest⟩
    · exact (Cert.DownRef.ff_eq _ _).trans (congrArg₂ Cert.DownRef.ffV e0 e3)
    · refine (Cert.DownRef.h2_eq (m' (c.tc.loc Cert.DownRefIdeal.main_arg0)) (m' (c.tc.loc Cert.DownRefIdeal.main_arg1))
        (m' (c.tc.loc Cert.DownRefIdeal.main_arg2)) (m' (c.tc.loc Cert.DownRefIdeal.main_arg3))).trans ?_
      rw [show m' (c.tc.loc Cert.DownRefIdeal.main_arg0) = f m c from e0, show m' (c.tc.loc Cert.DownRefIdeal.main_arg1) = h m c from e1,
        show m' (c.tc.loc Cert.DownRefIdeal.main_arg2) = g m c from e2, show m' (c.tc.loc Cert.DownRefIdeal.main_arg3) = w m c from e3]

end Cert.Proof.Down

end
-- ==== Proof.Up.lean ====
/- The first two products of the feed-forward layer, the gate, and the gate's derivatives kept for the backward pass. -/
module

public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.NormMath
public import proofs.«01_k».proof.Proof.Gate
public import proofs.«01_k».proof.Pre_finite8
public import proofs.«01_k».proof.Proof.Gen.Pre_finite8
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpRef

open Cert.UpRefIdeal Cert.UpRefIdeal.Gen Cert.NormMath
open Cert.GateIdeal.Product (sg gate_eq)

abbrev X := FVec Ideal S8192x1024 .f32
abbrev G := FVec Ideal S1024 .f32
abbrev W := FVec Ideal S1024x2816 .f32

/-- The norm's result and the two products, entry by entry. -/
abbrev hnV (x : X) (g : G) (r : Fin 8192) : Row := fun k => x (ix2 r k) * rs (fun l => x (ix2 r l)) * g (ix1 k)

abbrev prodV (x : X) (g : G) (w : W) (r : Fin 8192) (j : Fin 2816) : EReal := ∑ k : Fin 1024, hnV x g r k * w (ix2 k j)

/-- The gate's derivatives, by the product's first factor as the call computes it. -/
abbrev dga (a b : EReal) : EReal := b * (sg a * (1 + a * (1 - sg a)))

/-- The four results. -/
abbrev hnR (x : X) (g : G) : FVec Ideal S8192x1024 .bf16 := fun i => hnV x g (i 0) (i 1)
abbrev daR (x : X) (g : G) (wg wu : W) : FVec Ideal S8192x2816 .bf16 := fun i => dga (prodV x g wg (i 0) (i 1)) (prodV x g wu (i 0) (i 1))
abbrev dbR (x : X) (g : G) (wg : W) : FVec Ideal S8192x2816 .bf16 := fun i => prodV x g wg (i 0) (i 1) * sg (prodV x g wg (i 0) (i 1))
abbrev fR (x : X) (g : G) (wg wu : W) : FVec Ideal S8192x2816 .bf16 :=
  fun i => prodV x g wg (i 0) (i 1) * sg (prodV x g wg (i 0) (i 1)) * prodV x g wu (i 0) (i 1)

/-- The same as the reference's lines compute them. -/
def hnF (x : X) (g : G) : X :=
  mulf (mulf x (broadcastInDim S8192x1024 ![0, 1] bcast_S8192x1_S8192x1024_0_1
    (Host.rsqrt (addf (Host.divf (broadcastInDim S8192x1 ![0] bcast_S8192_S8192x1_0
      (Host.reduceAdd (mulf x x) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

abbrev Z := FVec Ideal S8192x2816 .f32

def prodF (h : X) (w : W) : Z := Host.dotGeneral dot_S8192x1024_S1024x2816_S8192x2816_1_0_0_1_n_n none h w

abbrev one : Z := broadcastInDim S8192x2816 ![] bcast_S_S8192x2816 (constant S_ .f32 0x3F800000#32)

def sgF (a : Z) : Z := Host.divf one (addf one (Host.exp (Host.negf a)))

def daF (a b : Z) : FVec Ideal S8192x2816 .bf16 :=
  truncf .bf16 (addf (mulf (mulf one b) (sgF a)) (mulf (mulf a (mulf one b)) (mulf (sgF a) (subf one (sgF a))))) bitsLt_bf16_f32

def dbF (a : Z) : FVec Ideal S8192x2816 .bf16 := truncf .bf16 (mulf (mulf a (sgF a)) one) bitsLt_bf16_f32

def fF (a b : Z) : FVec Ideal S8192x2816 .bf16 := truncf .bf16 (mulf (mulf a (sgF a)) b) bitsLt_bf16_f32

theorem hn_at (x : X) (g : G) (r : Fin 8192) (k : Fin 1024) : hnF x g (ix2 r k) = hnV x g r k := by
  pointwise [hnF]
  rfl

theorem prod_at (x : X) (g : G) (w : W) (r : Fin 8192) (j : Fin 2816) : prodF (hnF x g) w (ix2 r j) = prodV x g w r j := by
  pointwise [prodF]
  simp only [hn_at]

theorem sg_at (a : Z) (r : Fin 8192) (j : Fin 2816) : sgF a (ix2 r j) = sg (a (ix2 r j)) := by
  pointwise [sgF]

/-- A number times one over the root of its row is a real number. -/
theorem unit_real (v : Row) (k : Fin 1024) : ∃ y : ℝ, v k * rs v = (y : EReal) := by
  rcases cases v with ⟨f, q, r, hf, hq, hr, hm, hs, hrq⟩ | ⟨hm, hs⟩
  · exact ⟨f k * r, by rw [hf, hs, EReal.coe_mul]⟩
  · exact ⟨0, by rw [hs, mul_zero]; rfl⟩

theorem prod_real (x : X) (g : G) (w : W) (hg : ∀ i, ∃ y : ℝ, g i = (y : EReal)) (hw : ∀ i, ∃ y : ℝ, w i = (y : EReal))
    (r : Fin 8192) (j : Fin 2816) : ∃ y : ℝ, prodV x g w r j = (y : EReal) := by
  choose n hn using fun k => unit_real (fun l => x (ix2 r l)) k
  choose g' hg using hg
  choose w' hw using hw
  refine ⟨∑ k, n k * g' (ix1 k) * w' (ix2 k j), ?_⟩
  rw [← Cert.Consts.coe_sum]
  refine Finset.sum_congr rfl fun k _ => ?_
  rw [hnV, hn k, hg, hw, EReal.coe_mul, EReal.coe_mul]

theorem hn_eq (x : X) (g : G) : (truncf .bf16 (hnF x g) bitsLt_bf16_f32 : FVec Ideal S8192x1024 .bf16) = hnR x g := by
  funext i
  exact (congrArg (hnF x g) (ix2_eta i).symm).trans (hn_at x g (i 0) (i 1))

theorem da_at (a b : Z) (r : Fin 8192) (j : Fin 2816) (y : ℝ) (hy : b (ix2 r j) = (y : EReal)) :
    daF a b (ix2 r j) = dga (a (ix2 r j)) (b (ix2 r j)) := by
  pointwise [daF]
  rw [sg_at, hy]
  have := gate_eq (a (ix2 r j)) 1 y
  simpa only [EReal.coe_one, one_mul] using this.symm

theorem db_at (a : Z) (r : Fin 8192) (j : Fin 2816) : dbF a (ix2 r j) = a (ix2 r j) * sg (a (ix2 r j)) := by
  pointwise [dbF]
  rw [sg_at]

theorem f_at (a b : Z) (r : Fin 8192) (j : Fin 2816) : fF a b (ix2 r j) = a (ix2 r j) * sg (a (ix2 r j)) * b (ix2 r j) := by
  pointwise [fF]
  rw [sg_at]

theorem da_val (x : X) (g : G) (wg wu : W) (hg : ∀ i, ∃ y : ℝ, g i = (y : EReal)) (hw : ∀ i, ∃ y : ℝ, wu i = (y : EReal))
    (r : Fin 8192) (j : Fin 2816) : daF (prodF (hnF x g) wg) (prodF (hnF x g) wu) (ix2 r j) = daR x g wg wu (ix2 r j) := by
  obtain ⟨y, hy⟩ := prod_real x g wu hg hw r j
  rw [da_at _ _ r j y ((prod_at x g wu r j).trans hy), prod_at, prod_at]
  rfl

theorem db_val (x : X) (g : G) (wg : W) (r : Fin 8192) (j : Fin 2816) : dbF (prodF (hnF x g) wg) (ix2 r j) = dbR x g wg (ix2 r j) := by
  rw [db_at, prod_at]
  rfl

theorem f_val (x : X) (g : G) (wg wu : W) (r : Fin 8192) (j : Fin 2816) :
    fF (prodF (hnF x g) wg) (prodF (hnF x g) wu) (ix2 r j) = fR x g wg wu (ix2 r j) := by
  rw [f_at, prod_at, prod_at]
  rfl

theorem da_eq (x : X) (g : G) (wg wu : W) (hg : ∀ i, ∃ y : ℝ, g i = (y : EReal)) (hw : ∀ i, ∃ y : ℝ, wu i = (y : EReal)) :
    daF (prodF (hnF x g) wg) (prodF (hnF x g) wu) = daR x g wg wu := by
  funext i
  exact (congrArg _ (ix2_eta i).symm).trans (da_val x g wg wu hg hw (i 0) (i 1))

theorem db_eq (x : X) (g : G) (wg : W) : dbF (prodF (hnF x g) wg) = dbR x g wg := by
  funext i
  exact (congrArg _ (ix2_eta i).symm).trans (db_val x g wg (i 0) (i 1))

theorem f_eq (x : X) (g : G) (wg wu : W) : fF (prodF (hnF x g) wg) (prodF (hnF x g) wu) = fR x g wg wu := by
  funext i
  exact (congrArg _ (ix2_eta i).symm).trans (f_val x g wg wu (i 0) (i 1))

end Cert.UpRef

namespace Cert.UpIdeal.Up

open Cert.UpIdeal Cert.UpIdeal.Gen Cert.NormMath Cert.UpRef
open Cert.GateIdeal.Product (sg)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt32 (t : Fin cfg0.N) : t.val < 32 := t.isLt

/-- The row of the arrays that a block's row is. -/
abbrev row (t : Fin cfg0.N) (p : Fin 256) : Fin 8192 := ⟨256 * t.val + p.val, by have := lt32 t; omega⟩

/-- The arguments. -/
abbrev x : X := m ((c : Thread nD τ).loc main_arg0)
abbrev g : G := m ((c : Thread nD τ).loc main_arg1)
abbrev wg : W := m ((c : Thread nD τ).loc main_arg2)
abbrev wu : W := m ((c : Thread nD τ).loc main_arg3)

theorem blk_x (t : Fin cfg0.N) (p : Fin 256) (k : Fin 1024) :
    iblk m c 0 t (ix2 p k) = (V m c main_arg0 : Vec Ideal S8192x1024 .f32) (ix2 (row t p) k) := by
  have := lt32 t
  blk_ext [iblk, idx t]

theorem blk_g (t : Fin cfg0.N) (k : Fin 1024) :
    iblk m c 1 t (ix2 0 k) = (V m c main_v6 : Vec Ideal S1x1024 .f32) (ix2 0 k) := by
  have := lt32 t
  blk_ext [iblk, idx t]

theorem blk_wg (t : Fin cfg0.N) (p : Fin 8) (q : Fin 352) (k : Fin 1024) :
    iblk m c 2 t (ix3 p q k) = (V m c main_v2 : Vec Ideal S8x352x1024 .bf16) (ix3 p q k) := by
  have := lt32 t
  blk_ext [iblk, idx t]

theorem blk_wu (t : Fin cfg0.N) (p : Fin 8) (q : Fin 352) (k : Fin 1024) :
    iblk m c 3 t (ix3 p q k) = (V m c main_v5 : Vec Ideal S8x352x1024 .bf16) (ix3 p q k) := by
  have := lt32 t
  blk_ext [iblk, idx t]

theorem g_read (k : Fin 1024) : (V m c main_v6 : Vec Ideal S1x1024 .f32) (ix2 0 k) = g m c (ix1 k) := by
  show StableHlo.after hostOps0 (fun b => m (c, b)) (Proc.devRef .tc main_v6) _ = _
  after_reads_simp
  pointwise

theorem wg_read (q : Fin 2816) (k : Fin 1024) :
    (V m c main_v2 : Vec Ideal S8x352x1024 .bf16) (ix3 ⟨q.val / 352, by omega⟩ ⟨q.val % 352, by omega⟩ k) = wg m c (ix2 k q) := by
  show StableHlo.after hostOps0 (fun b => m (c, b)) (Proc.devRef .tc main_v2) _ = _
  after_reads_simp
  pointwise

theorem wu_read (q : Fin 2816) (k : Fin 1024) :
    (V m c main_v5 : Vec Ideal S8x352x1024 .bf16) (ix3 ⟨q.val / 352, by omega⟩ ⟨q.val % 352, by omega⟩ k) = wu m c (ix2 k q) := by
  show StableHlo.after hostOps0 (fun b => m (c, b)) (Proc.devRef .tc main_v5) _ = _
  after_reads_simp
  pointwise

section
variable (H : Vec Ideal S256x1024 .f32) (Gm : Vec Ideal S1x1024 .f32) (L : Vec Ideal S256x1024 .bf16) (A B : Vec Ideal S8x352x1024 .bf16)

theorem pay_hn (p : Fin 256) (v w : Row) (hv : ∀ k, H (ix2 p k) = v k) (hw : ∀ k, Gm (ix2 0 k) = w k) (k : Fin 1024) :
    k0_pay4 H Gm (ix2 p k) = v k * rs v * w k := by
  pointwise [k0_pay4, k0_pay2]
  simp only [hv, hw]
  rfl

theorem pay_lhs (p : Fin 256) (v w : Row) (hv : ∀ k, H (ix2 p k) = v k) (hw : ∀ k, Gm (ix2 0 k) = w k) (k : Fin 1024) :
    k0_pay3 H Gm (ix2 p k) = v k * rs v * w k := by
  pointwise [k0_pay3, k0_pay2]
  simp only [hv, hw]
  rfl

theorem pay_a (p : Fin 256) (q : Fin 2816) :
    k0_pay5 L A (ix2 p q) = ∑ k : Fin 1024, L (ix2 p k) * A (ix3 ⟨q.val / 352, by omega⟩ ⟨q.val % 352, by omega⟩ k) := by
  pointwise [k0_pay5]

theorem pay_b (p : Fin 256) (q : Fin 2816) :
    k0_pay6 L B (ix2 p q) = ∑ k : Fin 1024, L (ix2 p k) * B (ix3 ⟨q.val / 352, by omega⟩ ⟨q.val % 352, by omega⟩ k) := by
  pointwise [k0_pay6]

theorem pay_sg (p : Fin 256) (q : Fin 2816) : k0_pay7 L A (ix2 p q) = sg (k0_pay5 L A (ix2 p q)) := by
  pointwise [k0_pay7]
  rw [zero_sub]

theorem pay_da (p : Fin 256) (q : Fin 2816) :
    k0_pay10 L A L B (ix2 p q) = dga (k0_pay5 L A (ix2 p q)) (k0_pay6 L B (ix2 p q)) := by
  pointwise [k0_pay10]
  rw [pay_sg]

theorem pay_db (p : Fin 256) (q : Fin 2816) :
    k0_pay11 L A (ix2 p q) = k0_pay5 L A (ix2 p q) * sg (k0_pay5 L A (ix2 p q)) := by
  pointwise [k0_pay11, k0_pay8]
  rw [pay_sg]

theorem pay_f (p : Fin 256) (q : Fin 2816) :
    k0_pay1 (k0_pay9 L A L B) (ix2 p q) = k0_pay5 L A (ix2 p q) * sg (k0_pay5 L A (ix2 p q)) * k0_pay6 L B (ix2 p q) := by
  pointwise [k0_pay1, k0_pay9, k0_pay8]
  rw [pay_sg]

end

theorem x_blk (t : Fin cfg0.N) (p : Fin 256) (k : Fin 1024) : iblk m c 0 t (ix2 p k) = x m c (ix2 (row t p) k) := by
  rw [blk_x, V_main_arg0]

theorem g_blk (t : Fin cfg0.N) (k : Fin 1024) : iblk m c 1 t (ix2 0 k) = g m c (ix1 k) := by
  rw [blk_g, g_read]

theorem hn_blk (t : Fin cfg0.N) (p : Fin 256) (k : Fin 1024) :
    k0_pay4 (iblk m c 0 t) (iblk m c 1 t) (ix2 p k) = hnV (x m c) (g m c) (row t p) k :=
  pay_hn _ _ p (fun k => x m c (ix2 (row t p) k)) (fun k => g m c (ix1 k)) (x_blk m c t p) (g_blk m c t) k

/-- The left factor of the two products at a point. -/
abbrev L (t : Fin cfg0.N) : Vec Ideal S256x1024 .bf16 := k0_pay3 (iblk m c 0 t) (iblk m c 1 t)

theorem lhs_blk (t : Fin cfg0.N) (p : Fin 256) (k : Fin 1024) : L m c t (ix2 p k) = hnV (x m c) (g m c) (row t p) k :=
  pay_lhs _ _ p (fun k => x m c (ix2 (row t p) k)) (fun k => g m c (ix1 k)) (x_blk m c t p) (g_blk m c t) k

theorem a_blk (t : Fin cfg0.N) (p : Fin 256) (q : Fin 2816) :
    k0_pay5 (L m c t) (iblk m c 2 t) (ix2 p q) = prodV (x m c) (g m c) (wg m c) (row t p) q := by
  rw [pay_a]
  refine Finset.sum_congr rfl fun k _ => ?_
  rw [lhs_blk, blk_wg, wg_read]

theorem b_blk (t : Fin cfg0.N) (p : Fin 256) (q : Fin 2816) :
    k0_pay6 (L m c t) (iblk m c 3 t) (ix2 p q) = prodV (x m c) (g m c) (wu m c) (row t p) q := by
  rw [pay_b]
  refine Finset.sum_congr rfl fun k _ => ?_
  rw [lhs_blk, blk_wu, wu_read]

theorem out_hn (t : Fin cfg0.N) : (outsAt0 m c t).1 = k0_pay4 (iblk m c 0 t) (iblk m c 1 t) := by
  unfold outsAt0
  frame_out

theorem out_da (t : Fin cfg0.N) : (outsAt0 m c t).2.1 = k0_pay10 (L m c t) (iblk m c 2 t) (L m c t) (iblk m c 3 t) := by
  unfold outsAt0
  frame_out

theorem out_db (t : Fin cfg0.N) : (outsAt0 m c t).2.2.1 = k0_pay11 (L m c t) (iblk m c 2 t) := by
  unfold outsAt0
  frame_out

theorem out_f (t : Fin cfg0.N) : (outsAt0 m c t).2.2.2 = k0_pay1 (k0_pay9 (L m c t) (iblk m c 2 t) (L m c t) (iblk m c 3 t)) := by
  unfold outsAt0
  frame_out

theorem place_hn (t : Fin cfg0.N) (y : ((cfg0.win 4).xblock (cfg0.grid.coords t)).Idx) :
    (win0_4.blk t).view.emb y = ix2 (row t (y 0)) (y 1) := by
  have := lt32 t
  blk_ext [idx t]

theorem place_da (t : Fin cfg0.N) (y : ((cfg0.win 5).xblock (cfg0.grid.coords t)).Idx) :
    (win0_5.blk t).view.emb y = ix2 (row t (y 0)) (y 1) := by
  have := lt32 t
  blk_ext [idx t]

theorem place_db (t : Fin cfg0.N) (y : ((cfg0.win 6).xblock (cfg0.grid.coords t)).Idx) :
    (win0_6.blk t).view.emb y = ix2 (row t (y 0)) (y 1) := by
  have := lt32 t
  blk_ext [idx t]

theorem place_f (t : Fin cfg0.N) (y : ((cfg0.win 7).xblock (cfg0.grid.coords t)).Idx) :
    (win0_7.blk t).view.emb y = ix2 (row t (y 0)) (y 1) := by
  have := lt32 t
  blk_ext [idx t]

theorem point_hn (t : Fin cfg0.N) (p : Fin 256) (k : Fin 1024) :
    k0_pay4 (iblk m c 0 t) (iblk m c 1 t) (ix2 p k) = hnR (x m c) (g m c) (ix2 (row t p) k) := by
  rw [hn_blk]
  rfl

theorem point_da (t : Fin cfg0.N) (p : Fin 256) (q : Fin 2816) :
    k0_pay10 (L m c t) (iblk m c 2 t) (L m c t) (iblk m c 3 t) (ix2 p q) = daR (x m c) (g m c) (wg m c) (wu m c) (ix2 (row t p) q) := by
  rw [pay_da, a_blk, b_blk]
  rfl

theorem point_db (t : Fin cfg0.N) (p : Fin 256) (q : Fin 2816) :
    k0_pay11 (L m c t) (iblk m c 2 t) (ix2 p q) = dbR (x m c) (g m c) (wg m c) (ix2 (row t p) q) := by
  rw [pay_db, a_blk]
  rfl

theorem point_f (t : Fin cfg0.N) (p : Fin 256) (q : Fin 2816) :
    k0_pay1 (k0_pay9 (L m c t) (iblk m c 2 t) (L m c t) (iblk m c 3 t)) (ix2 p q)
      = fR (x m c) (g m c) (wg m c) (wu m c) (ix2 (row t p) q) := by
  rw [pay_f, a_blk, b_blk]
  rfl

theorem final_hn : (dats m 0 c).arrAt 4 (cfgs 0).N = hnR (x m c) (g m c) := by
  refine (dats m 0 c).arrAt_eq_of_covers 4 _ (by decide +kernel) fun t _ y => ?_
  blk_simp
  rw [after0_4, out_hn, place_hn]
  exact (congrArg (k0_pay4 (iblk m c 0 t) (iblk m c 1 t)) (ix2_eta y).symm).trans (point_hn m c t (y 0) (y 1))

theorem final_da : (dats m 0 c).arrAt 5 (cfgs 0).N = daR (x m c) (g m c) (wg m c) (wu m c) := by
  refine (dats m 0 c).arrAt_eq_of_covers 5 _ (by decide +kernel) fun t _ y => ?_
  blk_simp
  rw [after0_5, out_da, place_da]
  exact (congrArg (k0_pay10 (L m c t) (iblk m c 2 t) (L m c t) (iblk m c 3 t)) (ix2_eta y).symm).trans (point_da m c t (y 0) (y 1))

theorem final_db : (dats m 0 c).arrAt 6 (cfgs 0).N = dbR (x m c) (g m c) (wg m c) := by
  refine (dats m 0 c).arrAt_eq_of_covers 6 _ (by decide +kernel) fun t _ y => ?_
  blk_simp
  rw [after0_6, out_db, place_db]
  exact (congrArg (k0_pay11 (L m c t) (iblk m c 2 t)) (ix2_eta y).symm).trans (point_db m c t (y 0) (y 1))

theorem final_f : (dats m 0 c).arrAt 7 (cfgs 0).N = fR (x m c) (g m c) (wg m c) (wu m c) := by
  refine (dats m 0 c).arrAt_eq_of_covers 7 _ (by decide +kernel) fun t _ y => ?_
  blk_simp
  rw [after0_7, out_f, place_f]
  exact (congrArg (k0_pay1 (k0_pay9 (L m c t) (iblk m c 2 t) (L m c t) (iblk m c 3 t))) (ix2_eta y).symm).trans (point_f m c t (y 0) (y 1))

end Cert.UpIdeal.Up

namespace Cert.Proof.Up

theorem kernel : Cert.quiescent_Up := fun m ρ _ => Cert.Up.Gen.frame m ρ

theorem kernel_ideal : Cert.quiescent_UpIdeal := fun m ρ _ => Cert.UpIdeal.Gen.frame m ρ

theorem kernel_ideal_finite : Cert.quiescent_UpIdeal_pre_finite8 := fun m ρ _ => Cert.UpIdeal.Gen.frame m ρ

theorem reference_ideal : Cert.quiescent_UpRefIdeal := fun m ρ _ =>
  (θ_run Cert.UpRefIdeal.defs _ _).mono (fun r h => ⟨fun c => (h c).2.2.2.2,
      Idealize.ShloMosaic.sem_eq_zero_of_no_sems (by decide) r.2⟩)
    (Cert.UpRefIdeal.Value.run (F := Ideal) m ρ)

theorem reference_ideal_finite : Cert.quiescent_UpRefIdeal_pre_finite8 := fun m ρ _ => reference_ideal m ρ trivial

/-- The precondition says the entries of the norm's weight and of the second factor's weight are real numbers. -/
theorem all_real (x : FVec Ideal Cert.Pre_finite8.S8192x1024 .f32) (g : FVec Ideal Cert.Pre_finite8.S1024 .f32)
    (wg wu : FVec Ideal Cert.Pre_finite8.S1024x2816 .f32) (h : Cert.Pre_finite8.fn (F := Ideal) x g wg wu = fun _ => 1#1) :
    (∀ i, ∃ y : ℝ, g i = (y : EReal)) ∧ (∀ i, ∃ y : ℝ, wu i = (y : EReal)) := by
  have h0 := congrFun h ix0
  dsimp only [Cert.Pre_finite8.fn] at h0
  obtain ⟨hg, hw⟩ := IntOp.andi_eq_one.1 h0
  have hs : Subsingleton Cert.Pre_finite8.S_.Idx := ⟨fun a b => funext fun x => x.elim0⟩
  exact ⟨fun i => Cert.Finite.real_of_abs _ (Host.reduce_andi_all _ _ _ _ _ hg i),
    fun i => Cert.Finite.real_of_abs _ (Host.reduce_andi_all _ _ _ _ _ hw i)⟩

open Cert.UpIdeal.Up Cert.UpRef in
theorem algebraic : Cert.algebraic_UpIdeal_UpRefIdeal_pre_finite8 := by
  intro m ρ m' ρ' hp hagree
  refine ⟨fun c => hnR (x m c) (g m c), fun c => daR (x m c) (g m c) (wg m c) (wu m c), fun c => dbR (x m c) (g m c) (wg m c),
    fun c => fR (x m c) (g m c) (wg m c) (wu m c), ?_, ?_⟩
  · refine (θ_run Cert.UpIdeal.defs _ _).mono (fun r hr c => ?_) (Cert.UpIdeal.Value.run_blocks m ρ)
    obtain ⟨h0, h1, h2, h3, hrest⟩ := hr c
    exact ⟨h0.trans (final_hn m c), h1.trans (final_da m c), h2.trans (final_db m c), h3.trans (final_f m c), hrest⟩
  · refine (θ_run Cert.UpRefIdeal.defs _ _).mono (fun r hr c => ?_) (Cert.UpRefIdeal.Value.run (F := Ideal) m' ρ')
    obtain ⟨h0, h1, h2, h3, hrest⟩ := hr c
    obtain ⟨e0, e1, e2, e3⟩ := hagree c
    obtain ⟨hg, hw⟩ := all_real _ _ _ _ (hp c)
    have e0 : m' (c.tc.loc Cert.UpRefIdeal.main_arg0) = x m c := e0
    have e1 : m' (c.tc.loc Cert.UpRefIdeal.main_arg1) = g m c := e1
    have e2 : m' (c.tc.loc Cert.UpRefIdeal.main_arg2) = wg m c := e2
    have e3 : m' (c.tc.loc Cert.UpRefIdeal.main_arg3) = wu m c := e3
    rw [Cert.UpRefIdeal.Value.res_main_v22] at h1
    rw [e0, e1] at h0
    rw [e0, e1, e2, e3] at h1 h3
    rw [e0, e1, e2] at h2
    exact ⟨h0.trans (hn_eq _ _), h1.trans (da_eq _ _ _ _ hg hw), h2.trans (db_eq _ _ _), h3.trans (f_eq _ _ _ _), hrest⟩

end Cert.Proof.Up

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Algebraic
public import proofs.«01_k».proof.Proof.Gate
public import proofs.«01_k».proof.Proof.Weight
public import proofs.«01_k».proof.Proof.Norm
public import proofs.«01_k».proof.Proof.WeightGate
public import proofs.«01_k».proof.Proof.WeightUp
public import proofs.«01_k».proof.Proof.Down
public import proofs.«01_k».proof.Proof.Up
public import proofs.«01_k».proof.Proof.Gen.Gate
public import proofs.«01_k».proof.Proof.Gen.GateIdeal
public import proofs.«01_k».proof.Proof.Gen.GateRefIdeal
public import proofs.«01_k».proof.Proof.Gen.Weight
public import proofs.«01_k».proof.Proof.Gen.WeightIdeal
public import proofs.«01_k».proof.Proof.Gen.WeightRefIdeal
public import proofs.«01_k».proof.Proof.Gen.Norm
public import proofs.«01_k».proof.Proof.Gen.NormIdeal
public import proofs.«01_k».proof.Proof.Gen.NormRefIdeal
public import proofs.«01_k».proof.Proof.Gen.Pre_finite2
public import proofs.«01_k».proof.Proof.Gen.Pre_finite8
public import proofs.«01_k».proof.Proof.Gen.WeightGate
public import proofs.«01_k».proof.Proof.Gen.WeightGateIdeal
public import proofs.«01_k».proof.Proof.Gen.WeightGateRefIdeal
public import proofs.«01_k».proof.Proof.Gen.WeightUp
public import proofs.«01_k».proof.Proof.Gen.WeightUpIdeal
public import proofs.«01_k».proof.Proof.Gen.WeightUpRefIdeal
public import proofs.«01_k».proof.Proof.Gen.Down
public import proofs.«01_k».proof.Proof.Gen.DownIdeal
public import proofs.«01_k».proof.Proof.Gen.DownRefIdeal
public import proofs.«01_k».proof.Proof.Gen.Up
public import proofs.«01_k».proof.Proof.Gen.UpIdeal
public import proofs.«01_k».proof.Proof.Gen.UpRefIdeal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Gate.Gen.facts, Cert.GateIdeal.Gen.facts, Cert.GateRefIdeal.Gen.facts,
    Cert.Weight.Gen.facts, Cert.WeightIdeal.Gen.facts, Cert.WeightRefIdeal.Gen.facts,
    Cert.Norm.Gen.facts, Cert.NormIdeal.Gen.facts, Cert.NormRefIdeal.Gen.facts,
    Cert.WeightGate.Gen.facts, Cert.WeightGateIdeal.Gen.facts, Cert.WeightGateRefIdeal.Gen.facts,
    Cert.WeightUp.Gen.facts, Cert.WeightUpIdeal.Gen.facts, Cert.WeightUpRefIdeal.Gen.facts,
    Cert.Down.Gen.facts, Cert.DownIdeal.Gen.facts, Cert.DownRefIdeal.Gen.facts,
    Cert.Up.Gen.facts, Cert.UpIdeal.Gen.facts, Cert.UpRefIdeal.Gen.facts,
    Cert.Pre_finite.Gen.facts, Cert.Pre_finite2.Gen.facts, Cert.Pre_finite8.Gen.facts,
    Frames.kernel, Frames.kernel_ideal, fun m ρ _ => Cert.KernelIdeal.AttnBwd.frame m ρ,
    Frames.reference_ideal, Frames.reference_ideal_finite,
    Gate.kernel, Gate.kernel_ideal, Gate.kernel_ideal_finite, Gate.reference_ideal, Gate.reference_ideal_finite,
    Weight.kernel, Weight.kernel_ideal, Weight.reference_ideal,
    Norm.kernel, Norm.kernel_ideal, Norm.reference_ideal,
    WeightGate.kernel, WeightGate.kernel_ideal, WeightGate.reference_ideal,
    WeightUp.kernel, WeightUp.kernel_ideal, WeightUp.reference_ideal,
    Down.kernel, Down.kernel_ideal, Down.reference_ideal,
    Up.kernel, Up.kernel_ideal, Up.kernel_ideal_finite, Up.reference_ideal, Up.reference_ideal_finite,
    Frames.preserves, Algebraic.algebraic, trivial, Gate.algebraic, trivial, Weight.algebraic, trivial, Norm.algebraic,
    trivial, WeightGate.algebraic, trivial, WeightUp.algebraic, trivial, Down.algebraic, trivial, Up.algebraic⟩

end Cert.Proof

end
